-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_above_floor [hPre_weights_above_floor : Cert.Pre_weights_above_floor.Facts] (m : (ℓ : Loc Cert.KernelIdeal.nD Cert.KernelIdeal.τ Cert.KernelIdeal.sig) → Buf (Elt Ideal) ℓ) : Prop :=
  ∀ c : Dev Cert.KernelIdeal.nD,
    (Cert.Pre_weights_above_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_above_floor [hPre_weights_above_floor : Cert.Pre_weights_above_floor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_above_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_weights_above_floor [hKernelIdeal : Cert.KernelIdeal.Facts] [hPre_weights_above_floor : Cert.Pre_weights_above_floor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_above_floor m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_weights_above_floor [hReferenceIdeal : Cert.ReferenceIdeal.Facts] [hPre_weights_above_floor : Cert.Pre_weights_above_floor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_above_floor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_weights_above_floor [hKernelIdeal : Cert.KernelIdeal.Facts] [hReferenceIdeal : Cert.ReferenceIdeal.Facts] [hPre_weights_above_floor : Cert.Pre_weights_above_floor.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_above_floor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_weights_above_floor : Cert.Pre_weights_above_floor.Facts),
    quiescent_Kernel (hKernel := hKernel)
    ∧ quiescent_KernelIdeal (hKernelIdeal := hKernelIdeal)
    ∧ quiescent_KernelIdeal_pre_weights_above_floor (hKernelIdeal := hKernelIdeal) (hPre_weights_above_floor := hPre_weights_above_floor)
    ∧ quiescent_ReferenceIdeal (hReferenceIdeal := hReferenceIdeal)
    ∧ quiescent_ReferenceIdeal_pre_weights_above_floor (hReferenceIdeal := hReferenceIdeal) (hPre_weights_above_floor := hPre_weights_above_floor)
    ∧ preserves_Kernel_KernelIdeal
    ∧ algebraic_KernelIdeal_ReferenceIdeal_pre_weights_above_floor (hKernelIdeal := hKernelIdeal) (hReferenceIdeal := hReferenceIdeal) (hPre_weights_above_floor := hPre_weights_above_floor)
-- ==== Pre_weights_above_floor.lean ====
abbrev S8x8192x1024 : Shape := ⟨3, ![8, 8192, 1024]⟩
abbrev S1x1x1024 : Shape := ⟨3, ![1, 1, 1024]⟩
abbrev S1024 : Shape := ⟨1, ![1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S8x8192x16x64 : Shape := ⟨4, ![8, 8192, 16, 64]⟩
abbrev S8x1x1024 : Shape := ⟨3, ![8, 1, 1024]⟩
abbrev S8x1 : Shape := ⟨2, ![8, 1]⟩
abbrev S8x1x1 : Shape := ⟨3, ![8, 1, 1]⟩
abbrev S8x1x16x64 : Shape := ⟨4, ![8, 1, 16, 64]⟩
abbrev S8x16x1x8192 : Shape := ⟨4, ![8, 16, 1, 8192]⟩
abbrev S8x16x1 : Shape := ⟨3, ![8, 16, 1]⟩
abbrev S8x16x1x1 : Shape := ⟨4, ![8, 16, 1, 1]⟩

class Facts : Prop where
  reducesTo_S8x8192x1024_S8x8192_d2 : S8x8192x1024.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x1024_0_1_2 : S8x8192x1.BroadcastsInDim S8x8192x1024 (![0, 1, 2] : Fin 3 → Fin S8x8192x1024.rank)
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  transposes_S1024x1024_S1024x1024_1_0 : S1024x1024.Transposes [1, 0] S1024x1024
  shapeCasts_S8x8192x1024_S8x8192x16x64 : S8x8192x1024.ShapeCasts S8x8192x16x64
  bcast_S1x1x1024_S8x1x1024_0_1_2 : S1x1x1024.BroadcastsInDim S8x1x1024 (![0, 1, 2] : Fin 3 → Fin S8x1x1024.rank)
  reducesTo_S8x1x1024_S8x1_d2 : S8x1x1024.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x1x1024_0_1_2 : S8x1x1.BroadcastsInDim S8x1x1024 (![0, 1, 2] : Fin 3 → Fin S8x1x1024.rank)
  shapeCasts_S8x1x1024_S8x1x16x64 : S8x1x1024.ShapeCasts S8x1x16x64
  bcast_S_S8x1x16x64 : S_.BroadcastsInDim S8x1x16x64 (![] : Fin 0 → Fin S8x1x16x64.rank)
  reducesTo_S8x16x1x8192_S8x16x1_d3 : S8x16x1x8192.ReducesTo [3] S8x16x1
  bcast_S8x16x1_S8x16x1x1_0_1_2 : S8x16x1.BroadcastsInDim S8x16x1x1 (![0, 1, 2] : Fin 3 → Fin S8x16x1x1.rank)
  bcast_S8x16x1x1_S8x16x1x8192_0_1_2_3 : S8x16x1x1.BroadcastsInDim S8x16x1x8192 (![0, 1, 2, 3] : Fin 4 → Fin S8x16x1x8192.rank)
  bcast_S_S8x16x1x1 : S_.BroadcastsInDim S8x16x1x1 (![] : Fin 0 → Fin S8x16x1x1.rank)
  bcast_S_S8x16x1x8192 : S_.BroadcastsInDim S8x16x1x8192 (![] : Fin 0 → Fin S8x16x1x8192.rank)
  bcast_S_S8x8192x1024 : S_.BroadcastsInDim S8x8192x1024 (![] : Fin 0 → Fin S8x8192x1024.rank)
  reducesTo_S8x8192x1024_S_d0_1_2 : S8x8192x1024.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  dot_S8x8192x1024_S1024x1024_S8x8192x1024_2_0_01_1_n_n_wf : DotDims.WF S8x8192x1024 S1024x1024 S8x8192x1024 [2] [0] [0, 1] [1] [] []
  dot_S8x1x1024_S1024x1024_S8x1x1024_2_0_01_1_n_n_wf : DotDims.WF S8x1x1024 S1024x1024 S8x1x1024 [2] [0] [0, 1] [1] [] []
  dot_S8x1x16x64_S8x8192x16x64_S8x16x1x8192_3_3_1_1_02_02_wf : DotDims.WF S8x1x16x64 S8x8192x16x64 S8x16x1x8192 [3] [3] [1] [1] [0, 2] [0, 2]

variable [Facts]

def dot_S8x8192x1024_S1024x1024_S8x8192x1024_2_0_01_1_n_n : DotDims S8x8192x1024 S1024x1024 S8x8192x1024 where
  lhsContracting := [2]
  rhsContracting := [0]
  lhsNonContracting := [0, 1]
  rhsNonContracting := [1]
  lhsBatch := []
  rhsBatch := []
  wf := dot_S8x8192x1024_S1024x1024_S8x8192x1024_2_0_01_1_n_n_wf
def dot_S8x1x1024_S1024x1024_S8x1x1024_2_0_01_1_n_n : DotDims S8x1x1024 S1024x1024 S8x1x1024 where
  lhsContracting := [2]
  rhsContracting := [0]
  lhsNonContracting := [0, 1]
  rhsNonContracting := [1]
  lhsBatch := []
  rhsBatch := []
  wf := dot_S8x1x1024_S1024x1024_S8x1x1024_2_0_01_1_n_n_wf
def dot_S8x1x16x64_S8x8192x16x64_S8x16x1x8192_3_3_1_1_02_02 : DotDims S8x1x16x64 S8x8192x16x64 S8x16x1x8192 where
  lhsContracting := [3]
  rhsContracting := [3]
  lhsNonContracting := [1]
  rhsNonContracting := [1]
  lhsBatch := [0, 2]
  rhsBatch := [0, 2]
  wf := dot_S8x1x16x64_S8x8192x16x64_S8x16x1x8192_3_3_1_1_02_02_wf
def fn_part8 {F : FTy → Type} [FloatOps F] (main_arg14 : FVec F S1024x1024 .f32) (main_arg16 : FVec F S1024x1024 .f32) (main_v150 : IVec S8x16x1x8192 1) (main_v153 : IVec S1024 1) : IVec S8x16x1x8192 1 :=
  let main_c_36 : IVec S_ 1 := constantI S_ 1 1#1
  let main_v154 : IVec S_ 1 := (fun x v => Host.reduce IntOp.andi x v reducesTo_S1024_S_d0 h_S_) main_v153 main_c_36
  let main_v155 : IVec S8x16x1x8192 1 := broadcastInDim S8x16x1x8192 ![] bcast_S_S8x16x1x8192 main_v154
  let main_v156 : IVec S8x16x1x8192 1 := andi main_v150 main_v155
  let main_v157 : FVec F S1024x1024 .f32 := Host.absf main_arg14
  let main_cst_37 : FVec F S_ .f32 := constant S_ .f32 0x7F800000#32
  let main_v158 : FVec F S1024x1024 .f32 := broadcastInDim S1024x1024 ![] bcast_S_S1024x1024 main_cst_37
  let main_v159 : IVec S1024x1024 1 := cmpf .olt main_v157 main_v158
  let main_c_38 : IVec S_ 1 := constantI S_ 1 1#1
  let main_v160 : IVec S_ 1 := (fun x v => Host.reduce IntOp.andi x v reducesTo_S1024x1024_S_d0_1 h_S_) main_v159 main_c_38
  let main_v161 : IVec S8x16x1x8192 1 := broadcastInDim S8x16x1x8192 ![] bcast_S_S8x16x1x8192 main_v160
  let main_v162 : IVec S8x16x1x8192 1 := andi main_v156 main_v161
  let main_v163 : FVec F S1024x1024 .f32 := Host.absf main_arg16
  let main_cst_39 : FVec F S_ .f32 := constant S_ .f32 0x7F800000#32
  let main_v164 : FVec F S1024x1024 .f32 := broadcastInDim S1024x1024 ![] bcast_S_S1024x1024 main_cst_39
  let main_v165 : IVec S1024x1024 1 := cmpf .olt main_v163 main_v164
  let main_c_40 : IVec S_ 1 := constantI S_ 1 1#1
  let main_v166 : IVec S_ 1 := (fun x v => Host.reduce IntOp.andi x v reducesTo_S1024x1024_S_d0_1 h_S_) main_v165 main_c_40
  let main_v167 : IVec S8x16x1x8192 1 := broadcastInDim S8x16x1x8192 ![] bcast_S_S8x16x1x8192 main_v166
  let main_v168 : IVec S8x16x1x8192 1 := andi main_v162 main_v167
  main_v168

def fn_part7 {F : FTy → Type} [FloatOps F] (main_arg8 : FVec F S1024 .f32) (main_arg12 : FVec F S1024x1024 .f32) (main_arg13 : FVec F S1024 .f32) (main_arg14 : FVec F S1024x1024 .f32) (main_arg16 : FVec F S1024x1024 .f32) (main_v132 : IVec S8x16x1x8192 1) (main_v135 : IVec S1024 1) : IVec S8x16x1x8192 1 :=
  let main_c_30 : IVec S_ 1 := constantI S_ 1 1#1
  let main_v136 : IVec S_ 1 := (fun x v => Host.reduce IntOp.andi x v reducesTo_S1024_S_d0 h_S_) main_v135 main_c_30
  let main_v137 : IVec S8x16x1x8192 1 := broadcastInDim S8x16x1x8192 ![] bcast_S_S8x16x1x8192 main_v136
  let main_v138 : IVec S8x16x1x8192 1 := andi main_v132 main_v137
  let main_v139 : FVec F S1024 .f32 := Host.absf main_arg8
  let main_cst_31 : FVec F S_ .f32 := constant S_ .f32 0x7F800000#32
  let main_v140 : FVec F S1024 .f32 := broadcastInDim S1024 ![] bcast_S_S1024 main_cst_31
  let main_v141 : IVec S1024 1 := cmpf .olt main_v139 main_v140
  let main_c_32 : IVec S_ 1 := constantI S_ 1 1#1
  let main_v142 : IVec S_ 1 := (fun x v => Host.reduce IntOp.andi x v reducesTo_S1024_S_d0 h_S_) main_v141 main_c_32
  let main_v143 : IVec S8x16x1x8192 1 := broadcastInDim S8x16x1x8192 ![] bcast_S_S8x16x1x8192 main_v142
  let main_v144 : IVec S8x16x1x8192 1 := andi main_v138 main_v143
  let main_v145 : FVec F S1024x1024 .f32 := Host.absf main_arg12
  let main_cst_33 : FVec F S_ .f32 := constant S_ .f32 0x7F800000#32
  let main_v146 : FVec F S1024x1024 .f32 := broadcastInDim S1024x1024 ![] bcast_S_S1024x1024 main_cst_33
  let main_v147 : IVec S1024x1024 1 := cmpf .olt main_v145 main_v146
  let main_c_34 : IVec S_ 1 := constantI S_ 1 1#1
  let main_v148 : IVec S_ 1 := (fun x v => Host.reduce IntOp.andi x v reducesTo_S1024x1024_S_d0_1 h_S_) main_v147 main_c_34
  let main_v149 : IVec S8x16x1x8192 1 := broadcastInDim S8x16x1x8192 ![] bcast_S_S8x16x1x8192 main_v148
  let main_v150 : IVec S8x16x1x8192 1 := andi main_v144 main_v149
  let main_v151 : FVec F S1024 .f32 := Host.absf main_arg13
  let main_cst_35 : FVec F S_ .f32 := constant S_ .f32 0x7F800000#32
  let main_v152 : FVec F S1024 .f32 := broadcastInDim S1024 ![] bcast_S_S1024 main_cst_35
  let main_v153 : IVec S1024 1 := cmpf .olt main_v151 main_v152
  fn_part8 (F := F) main_arg14 main_arg16 main_v150 main_v153

def fn_part6 {F : FTy → Type} [FloatOps F] (main_arg4 : FVec F S1024 .f32) (main_arg5 : FVec F S1024 .f32) (main_arg6 : FVec F S1024 .f32) (main_arg8 : FVec F S1024 .f32) (main_arg12 : FVec F S1024x1024 .f32) (main_arg13 : FVec F S1024 .f32) (main_arg14 : FVec F S1024x1024 .f32) (main_arg16 : FVec F S1024x1024 .f32) (main_v114 : IVec S8x16x1x8192 1) (main_v117 : IVec S1024 1) : IVec S8x16x1x8192 1 :=
  let main_c_24 : IVec S_ 1 := constantI S_ 1 1#1
  let main_v118 : IVec S_ 1 := (fun x v => Host.reduce IntOp.andi x v reducesTo_S1024_S_d0 h_S_) main_v117 main_c_24
  let main_v119 : IVec S8x16x1x8192 1 := broadcastInDim S8x16x1x8192 ![] bcast_S_S8x16x1x8192 main_v118
  let main_v120 : IVec S8x16x1x8192 1 := andi main_v114 main_v119
  let main_v121 : FVec F S1024 .f32 := Host.absf main_arg4
  let main_cst_25 : FVec F S_ .f32 := constant S_ .f32 0x7F800000#32
  let main_v122 : FVec F S1024 .f32 := broadcastInDim S1024 ![] bcast_S_S1024 main_cst_25
  let main_v123 : IVec S1024 1 := cmpf .olt main_v121 main_v122
  let main_c_26 : IVec S_ 1 := constantI S_ 1 1#1
  let main_v124 : IVec S_ 1 := (fun x v => Host.reduce IntOp.andi x v reducesTo_S1024_S_d0 h_S_) main_v123 main_c_26
  let main_v125 : IVec S8x16x1x8192 1 := broadcastInDim S8x16x1x8192 ![] bcast_S_S8x16x1x8192 main_v124
  let main_v126 : IVec S8x16x1x8192 1 := andi main_v120 main_v125
  let main_v127 : FVec F S1024 .f32 := Host.absf main_arg5
  let main_cst_27 : FVec F S_ .f32 := constant S_ .f32 0x7F800000#32
  let main_v128 : FVec F S1024 .f32 := broadcastInDim S1024 ![] bcast_S_S1024 main_cst_27
  let main_v129 : IVec S1024 1 := cmpf .olt main_v127 main_v128
  let main_c_28 : IVec S_ 1 := constantI S_ 1 1#1
  let main_v130 : IVec S_ 1 := (fun x v => Host.reduce IntOp.andi x v reducesTo_S1024_S_d0 h_S_) main_v129 main_c_28
  let main_v131 : IVec S8x16x1x8192 1 := broadcastInDim S8x16x1x8192 ![] bcast_S_S8x16x1x8192 main_v130
  let main_v132 : IVec S8x16x1x8192 1 := andi main_v126 main_v131
  let main_v133 : FVec F S1024 .f32 := Host.absf main_arg6
  let main_cst_29 : FVec F S_ .f32 := constant S_ .f32 0x7F800000#32
  let main_v134 : FVec F S1024 .f32 := broadcastInDim S1024 ![] bcast_S_S1024 main_cst_29
  let main_v135 : IVec S1024 1 := cmpf .olt main_v133 main_v134
  fn_part7 (F := F) main_arg8 main_arg12 main_arg13 main_arg14 main_arg16 main_v132 main_v135

def fn_part5 {F : FTy → Type} [FloatOps F] (main_arg0 : FVec F S8x8192x1024 .f32) (main_arg2 : FVec F S1024 .f32) (main_arg3 : FVec F S1024 .f32) (main_arg4 : FVec F S1024 .f32) (main_arg5 : FVec F S1024 .f32) (main_arg6 : FVec F S1024 .f32) (main_arg8 : FVec F S1024 .f32) (main_arg12 : FVec F S1024x1024 .f32) (main_arg13 : FVec F S1024 .f32) (main_arg14 : FVec F S1024x1024 .f32) (main_arg16 : FVec F S1024x1024 .f32) (main_v94 : FVec F S8x16x1x8192 .f32) (main_v99 : FVec F S8x16x1x8192 .f32) : IVec S8x16x1x8192 1 :=
  let main_v100 : FVec F S8x16x1x8192 .f32 := Host.divf main_v94 main_v99
  let main_cst_19 : FVec F S_ .f32 := constant S_ .f32 0x3089705F#32
  let main_v101 : FVec F S8x16x1x8192 .f32 := broadcastInDim S8x16x1x8192 ![] bcast_S_S8x16x1x8192 main_cst_19
  let main_v102 : IVec S8x16x1x8192 1 := cmpf .oge main_v100 main_v101
  let main_v103 : FVec F S8x8192x1024 .f32 := Host.absf main_arg0
  let main_cst_20 : FVec F S_ .f32 := constant S_ .f32 0x7F800000#32
  let main_v104 : FVec F S8x8192x1024 .f32 := broadcastInDim S8x8192x1024 ![] bcast_S_S8x8192x1024 main_cst_20
  let main_v105 : IVec S8x8192x1024 1 := cmpf .olt main_v103 main_v104
  let main_c : IVec S_ 1 := constantI S_ 1 1#1
  let main_v106 : IVec S_ 1 := (fun x v => Host.reduce IntOp.andi x v reducesTo_S8x8192x1024_S_d0_1_2 h_S_) main_v105 main_c
  let main_v107 : IVec S8x16x1x8192 1 := broadcastInDim S8x16x1x8192 ![] bcast_S_S8x16x1x8192 main_v106
  let main_v108 : IVec S8x16x1x8192 1 := andi main_v102 main_v107
  let main_v109 : FVec F S1024 .f32 := Host.absf main_arg2
  let main_cst_21 : FVec F S_ .f32 := constant S_ .f32 0x7F800000#32
  let main_v110 : FVec F S1024 .f32 := broadcastInDim S1024 ![] bcast_S_S1024 main_cst_21
  let main_v111 : IVec S1024 1 := cmpf .olt main_v109 main_v110
  let main_c_22 : IVec S_ 1 := constantI S_ 1 1#1
  let main_v112 : IVec S_ 1 := (fun x v => Host.reduce IntOp.andi x v reducesTo_S1024_S_d0 h_S_) main_v111 main_c_22
  let main_v113 : IVec S8x16x1x8192 1 := broadcastInDim S8x16x1x8192 ![] bcast_S_S8x16x1x8192 main_v112
  let main_v114 : IVec S8x16x1x8192 1 := andi main_v108 main_v113
  let main_v115 : FVec F S1024 .f32 := Host.absf main_arg3
  let main_cst_23 : FVec F S_ .f32 := constant S_ .f32 0x7F800000#32
  let main_v116 : FVec F S1024 .f32 := broadcastInDim S1024 ![] bcast_S_S1024 main_cst_23
  let main_v117 : IVec S1024 1 := cmpf .olt main_v115 main_v116
  fn_part6 (F := F) main_arg4 main_arg5 main_arg6 main_arg8 main_arg12 main_arg13 main_arg14 main_arg16 main_v114 main_v117

def fn_part4 {F : FTy → Type} [FloatOps F] (main_arg0 : FVec F S8x8192x1024 .f32) (main_arg2 : FVec F S1024 .f32) (main_arg3 : FVec F S1024 .f32) (main_arg4 : FVec F S1024 .f32) (main_arg5 : FVec F S1024 .f32) (main_arg6 : FVec F S1024 .f32) (main_arg8 : FVec F S1024 .f32) (main_arg12 : FVec F S1024x1024 .f32) (main_arg13 : FVec F S1024 .f32) (main_arg14 : FVec F S1024x1024 .f32) (main_arg16 : FVec F S1024x1024 .f32) (main_v53 : FVec F S8x8192x16x64 .f32) (main_v80 : FVec F S8x1x1024 .f32) : IVec S8x16x1x8192 1 :=
  let main_v81 : FVec F S1x1x1024 .f32 := broadcastInDim S1x1x1024 ![2] bcast_S1024_S1x1x1024_2 main_arg13
  let main_v82 : FVec F S8x1x1024 .f32 := broadcastInDim S8x1x1024 ![0, 1, 2] bcast_S1x1x1024_S8x1x1024_0_1_2 main_v81
  let main_v83 : FVec F S8x1x1024 .f32 := addf main_v80 main_v82
  let main_v84 : FVec F S8x1x16x64 .f32 := shapeCast S8x1x16x64 main_v83 shapeCasts_S8x1x1024_S8x1x16x64
  let main_cst_14 : FVec F S_ .f32 := constant S_ .f32 0x42800000#32
  let main_v85 : FVec F S_ .f32 := Host.sqrt main_cst_14
  let main_cst_15 : FVec F S_ .f32 := constant S_ .f32 0x3F800000#32
  let main_v86 : FVec F S_ .f32 := Host.divf main_cst_15 main_v85
  let main_v87 : FVec F S8x1x16x64 .f32 := broadcastInDim S8x1x16x64 ![] bcast_S_S8x1x16x64 main_v86
  let main_v88 : FVec F S8x1x16x64 .f32 := mulf main_v84 main_v87
  let main_v89 : FVec F S8x16x1x8192 .f32 := (fun l r => Host.dotGeneral dot_S8x1x16x64_S8x8192x16x64_S8x16x1x8192_3_3_1_1_02_02 none l r) main_v88 main_v53
  let main_cst_16 : FVec F S_ .f32 := constant S_ .f32 0xFF800000#32
  let main_v90 : FVec F S8x16x1 .f32 := (fun x v => Host.reduce FloatOps.maximumf x v reducesTo_S8x16x1x8192_S8x16x1_d3 h_S_) main_v89 main_cst_16
  let main_v91 : FVec F S8x16x1x1 .f32 := broadcastInDim S8x16x1x1 ![0, 1, 2] bcast_S8x16x1_S8x16x1x1_0_1_2 main_v90
  let main_v92 : FVec F S8x16x1x8192 .f32 := broadcastInDim S8x16x1x8192 ![0, 1, 2, 3] bcast_S8x16x1x1_S8x16x1x8192_0_1_2_3 main_v91
  let main_v93 : FVec F S8x16x1x8192 .f32 := subf main_v89 main_v92
  let main_v94 : FVec F S8x16x1x8192 .f32 := Host.exp main_v93
  let main_cst_17 : FVec F S_ .f32 := constant S_ .f32 0x00000000#32
  let main_v95 : FVec F S8x16x1 .f32 := (fun x v => Host.reduceAdd x v reducesTo_S8x16x1x8192_S8x16x1_d3 h_S_) main_v94 main_cst_17
  let main_v96 : FVec F S8x16x1x1 .f32 := broadcastInDim S8x16x1x1 ![0, 1, 2] bcast_S8x16x1_S8x16x1x1_0_1_2 main_v95
  let main_cst_18 : FVec F S_ .f32 := constant S_ .f32 0x3089705F#32
  let main_v97 : FVec F S8x16x1x1 .f32 := broadcastInDim S8x16x1x1 ![] bcast_S_S8x16x1x1 main_cst_18
  let main_v98 : FVec F S8x16x1x1 .f32 := addf main_v96 main_v97
  let main_v99 : FVec F S8x16x1x8192 .f32 := broadcastInDim S8x16x1x8192 ![0, 1, 2, 3] bcast_S8x16x1x1_S8x16x1x8192_0_1_2_3 main_v98
  fn_part5 (F := F) main_arg0 main_arg2 main_arg3 main_arg4 main_arg5 main_arg6 main_arg8 main_arg12 main_arg13 main_arg14 main_arg16 main_v94 main_v99

def fn_part3 {F : FTy → Type} [FloatOps F] (main_arg0 : FVec F S8x8192x1024 .f32) (main_arg2 : FVec F S1024 .f32) (main_arg3 : FVec F S1024 .f32) (main_arg4 : FVec F S1024 .f32) (main_arg5 : FVec F S1024 .f32) (main_arg6 : FVec F S1024 .f32) (main_arg8 : FVec F S1024 .f32) (main_arg12 : FVec F S1024x1024 .f32) (main_arg13 : FVec F S1024 .f32) (main_arg14 : FVec F S1024x1024 .f32) (main_arg16 : FVec F S1024x1024 .f32) (main_v53 : FVec F S8x8192x16x64 .f32) (main_v54 : FVec F S8x1x1024 .f32) (main_v58 : FVec F S8x1x1 .f32) (main_v59 : FVec F S8x1x1024 .f32) : IVec S8x16x1x8192 1 :=
  let main_v60 : FVec F S8x1x1024 .f32 := subf main_v54 main_v59
  let main_v61 : FVec F S8x1x1024 .f32 := mulf main_v60 main_v60
  let main_cst_11 : FVec F S_ .f32 := constant S_ .f32 0x00000000#32
  let main_v62 : FVec F S8x1 .f32 := (fun x v => Host.reduceAdd x v reducesTo_S8x1x1024_S8x1_d2 h_S_) main_v61 main_cst_11
  let main_v63 : FVec F S8x1x1 .f32 := broadcastInDim S8x1x1 ![0, 1] bcast_S8x1_S8x1x1_0_1 main_v62
  let main_cst_12 : FVec F S_ .f32 := constant S_ .f32 0x44800000#32
  let main_v64 : FVec F S8x1x1 .f32 := broadcastInDim S8x1x1 ![] bcast_S_S8x1x1 main_cst_12
  let main_v65 : FVec F S8x1x1 .f32 := Host.divf main_v63 main_v64
  let main_v66 : FVec F S8x1x1024 .f32 := broadcastInDim S8x1x1024 ![0, 1, 2] bcast_S8x1x1_S8x1x1024_0_1_2 main_v58
  let main_v67 : FVec F S8x1x1024 .f32 := subf main_v54 main_v66
  let main_cst_13 : FVec F S_ .f32 := constant S_ .f32 0x3727C5AC#32
  let main_v68 : FVec F S8x1x1 .f32 := broadcastInDim S8x1x1 ![] bcast_S_S8x1x1 main_cst_13
  let main_v69 : FVec F S8x1x1 .f32 := addf main_v65 main_v68
  let main_v70 : FVec F S8x1x1 .f32 := Host.rsqrt main_v69
  let main_v71 : FVec F S8x1x1024 .f32 := broadcastInDim S8x1x1024 ![0, 1, 2] bcast_S8x1x1_S8x1x1024_0_1_2 main_v70
  let main_v72 : FVec F S8x1x1024 .f32 := mulf main_v67 main_v71
  let main_v73 : FVec F S1x1x1024 .f32 := broadcastInDim S1x1x1024 ![2] bcast_S1024_S1x1x1024_2 main_arg4
  let main_v74 : FVec F S8x1x1024 .f32 := broadcastInDim S8x1x1024 ![0, 1, 2] bcast_S1x1x1024_S8x1x1024_0_1_2 main_v73
  let main_v75 : FVec F S8x1x1024 .f32 := mulf main_v72 main_v74
  let main_v76 : FVec F S1x1x1024 .f32 := broadcastInDim S1x1x1024 ![2] bcast_S1024_S1x1x1024_2 main_arg5
  let main_v77 : FVec F S8x1x1024 .f32 := broadcastInDim S8x1x1024 ![0, 1, 2] bcast_S1x1x1024_S8x1x1024_0_1_2 main_v76
  let main_v78 : FVec F S8x1x1024 .f32 := addf main_v75 main_v77
  let main_v79 : FVec F S1024x1024 .f32 := (transpose S1024x1024 [1, 0] · transposes_S1024x1024_S1024x1024_1_0) main_arg12
  let main_v80 : FVec F S8x1x1024 .f32 := (fun l r => Host.dotGeneral dot_S8x1x1024_S1024x1024_S8x1x1024_2_0_01_1_n_n none l r) main_v78 main_v79
  fn_part4 (F := F) main_arg0 main_arg2 main_arg3 main_arg4 main_arg5 main_arg6 main_arg8 main_arg12 main_arg13 main_arg14 main_arg16 main_v53 main_v80

def fn_part2 {F : FTy → Type} [FloatOps F] (main_arg0 : FVec F S8x8192x1024 .f32) (main_arg1 : FVec F S1x1x1024 .f32) (main_arg2 : FVec F S1024 .f32) (main_arg3 : FVec F S1024 .f32) (main_arg4 : FVec F S1024 .f32) (main_arg5 : FVec F S1024 .f32) (main_arg6 : FVec F S1024 .f32) (main_arg7 : FVec F S1024 .f32) (main_arg8 : FVec F S1024 .f32) (main_arg12 : FVec F S1024x1024 .f32) (main_arg13 : FVec F S1024 .f32) (main_arg14 : FVec F S1024x1024 .f32) (main_arg15 : FVec F S1024 .f32) (main_arg16 : FVec F S1024x1024 .f32) (main_v34 : FVec F S8x8192x1 .f32) (main_v36 : FVec F S8x8192x1024 .f32) (main_v37 : FVec F S8x8192x1 .f32) : IVec S8x16x1x8192 1 :=
  let main_v38 : FVec F S8x8192x1 .f32 := addf main_v34 main_v37
  let main_v39 : FVec F S8x8192x1 .f32 := Host.rsqrt main_v38
  let main_v40 : FVec F S8x8192x1024 .f32 := broadcastInDim S8x8192x1024 ![0, 1, 2] bcast_S8x8192x1_S8x8192x1024_0_1_2 main_v39
  let main_v41 : FVec F S8x8192x1024 .f32 := mulf main_v36 main_v40
  let main_v42 : FVec F S1x1x1024 .f32 := broadcastInDim S1x1x1024 ![2] bcast_S1024_S1x1x1024_2 main_arg6
  let main_v43 : FVec F S8x8192x1024 .f32 := broadcastInDim S8x8192x1024 ![0, 1, 2] bcast_S1x1x1024_S8x8192x1024_0_1_2 main_v42
  let main_v44 : FVec F S8x8192x1024 .f32 := mulf main_v41 main_v43
  let main_v45 : FVec F S1x1x1024 .f32 := broadcastInDim S1x1x1024 ![2] bcast_S1024_S1x1x1024_2 main_arg7
  let main_v46 : FVec F S8x8192x1024 .f32 := broadcastInDim S8x8192x1024 ![0, 1, 2] bcast_S1x1x1024_S8x8192x1024_0_1_2 main_v45
  let main_v47 : FVec F S8x8192x1024 .f32 := addf main_v44 main_v46
  let main_v48 : FVec F S1024x1024 .f32 := (transpose S1024x1024 [1, 0] · transposes_S1024x1024_S1024x1024_1_0) main_arg14
  let main_v49 : FVec F S8x8192x1024 .f32 := (fun l r => Host.dotGeneral dot_S8x8192x1024_S1024x1024_S8x8192x1024_2_0_01_1_n_n none l r) main_v47 main_v48
  let main_v50 : FVec F S1x1x1024 .f32 := broadcastInDim S1x1x1024 ![2] bcast_S1024_S1x1x1024_2 main_arg15
  let main_v51 : FVec F S8x8192x1024 .f32 := broadcastInDim S8x8192x1024 ![0, 1, 2] bcast_S1x1x1024_S8x8192x1024_0_1_2 main_v50
  let main_v52 : FVec F S8x8192x1024 .f32 := addf main_v49 main_v51
  let main_v53 : FVec F S8x8192x16x64 .f32 := shapeCast S8x8192x16x64 main_v52 shapeCasts_S8x8192x1024_S8x8192x16x64
  let main_v54 : FVec F S8x1x1024 .f32 := broadcastInDim S8x1x1024 ![0, 1, 2] bcast_S1x1x1024_S8x1x1024_0_1_2 main_arg1
  let main_cst_9 : FVec F S_ .f32 := constant S_ .f32 0x00000000#32
  let main_v55 : FVec F S8x1 .f32 := (fun x v => Host.reduceAdd x v reducesTo_S8x1x1024_S8x1_d2 h_S_) main_v54 main_cst_9
  let main_v56 : FVec F S8x1x1 .f32 := broadcastInDim S8x1x1 ![0, 1] bcast_S8x1_S8x1x1_0_1 main_v55
  let main_cst_10 : FVec F S_ .f32 := constant S_ .f32 0x44800000#32
  let main_v57 : FVec F S8x1x1 .f32 := broadcastInDim S8x1x1 ![] bcast_S_S8x1x1 main_cst_10
  let main_v58 : FVec F S8x1x1 .f32 := Host.divf main_v56 main_v57
  let main_v59 : FVec F S8x1x1024 .f32 := broadcastInDim S8x1x1024 ![0, 1, 2] bcast_S8x1x1_S8x1x1024_0_1_2 main_v58
  fn_part3 (F := F) main_arg0 main_arg2 main_arg3 main_arg4 main_arg5 main_arg6 main_arg8 main_arg12 main_arg13 main_arg14 main_arg16 main_v53 main_v54 main_v58 main_v59

def fn_part1 {F : FTy → Type} [FloatOps F] (main_arg0 : FVec F S8x8192x1024 .f32) (main_arg1 : FVec F S1x1x1024 .f32) (main_arg2 : FVec F S1024 .f32) (main_arg3 : FVec F S1024 .f32) (main_arg4 : FVec F S1024 .f32) (main_arg5 : FVec F S1024 .f32) (main_arg6 : FVec F S1024 .f32) (main_arg7 : FVec F S1024 .f32) (main_arg8 : FVec F S1024 .f32) (main_arg12 : FVec F S1024x1024 .f32) (main_arg13 : FVec F S1024 .f32) (main_arg14 : FVec F S1024x1024 .f32) (main_arg15 : FVec F S1024 .f32) (main_arg16 : FVec F S1024x1024 .f32) (main_v17 : FVec F S8x8192x1024 .f32) (main_v18 : FVec F S1x1x1024 .f32) : IVec S8x16x1x8192 1 :=
  let main_v19 : FVec F S8x8192x1024 .f32 := broadcastInDim S8x8192x1024 ![0, 1, 2] bcast_S1x1x1024_S8x8192x1024_0_1_2 main_v18
  let main_v20 : FVec F S8x8192x1024 .f32 := mulf main_v17 main_v19
  let main_v21 : FVec F S1x1x1024 .f32 := broadcastInDim S1x1x1024 ![2] bcast_S1024_S1x1x1024_2 main_arg3
  let main_v22 : FVec F S8x8192x1024 .f32 := broadcastInDim S8x8192x1024 ![0, 1, 2] bcast_S1x1x1024_S8x8192x1024_0_1_2 main_v21
  let main_v23 : FVec F S8x8192x1024 .f32 := addf main_v20 main_v22
  let main_cst_4 : FVec F S_ .f32 := constant S_ .f32 0x00000000#32
  let main_v24 : FVec F S8x8192 .f32 := (fun x v => Host.reduceAdd x v reducesTo_S8x8192x1024_S8x8192_d2 h_S_) main_v23 main_cst_4
  let main_v25 : FVec F S8x8192x1 .f32 := broadcastInDim S8x8192x1 ![0, 1] bcast_S8x8192_S8x8192x1_0_1 main_v24
  let main_cst_5 : FVec F S_ .f32 := constant S_ .f32 0x44800000#32
  let main_v26 : FVec F S8x8192x1 .f32 := broadcastInDim S8x8192x1 ![] bcast_S_S8x8192x1 main_cst_5
  let main_v27 : FVec F S8x8192x1 .f32 := Host.divf main_v25 main_v26
  let main_v28 : FVec F S8x8192x1024 .f32 := broadcastInDim S8x8192x1024 ![0, 1, 2] bcast_S8x8192x1_S8x8192x1024_0_1_2 main_v27
  let main_v29 : FVec F S8x8192x1024 .f32 := subf main_v23 main_v28
  let main_v30 : FVec F S8x8192x1024 .f32 := mulf main_v29 main_v29
  let main_cst_6 : FVec F S_ .f32 := constant S_ .f32 0x00000000#32
  let main_v31 : FVec F S8x8192 .f32 := (fun x v => Host.reduceAdd x v reducesTo_S8x8192x1024_S8x8192_d2 h_S_) main_v30 main_cst_6
  let main_v32 : FVec F S8x8192x1 .f32 := broadcastInDim S8x8192x1 ![0, 1] bcast_S8x8192_S8x8192x1_0_1 main_v31
  let main_cst_7 : FVec F S_ .f32 := constant S_ .f32 0x44800000#32
  let main_v33 : FVec F S8x8192x1 .f32 := broadcastInDim S8x8192x1 ![] bcast_S_S8x8192x1 main_cst_7
  let main_v34 : FVec F S8x8192x1 .f32 := Host.divf main_v32 main_v33
  let main_v35 : FVec F S8x8192x1024 .f32 := broadcastInDim S8x8192x1024 ![0, 1, 2] bcast_S8x8192x1_S8x8192x1024_0_1_2 main_v27
  let main_v36 : FVec F S8x8192x1024 .f32 := subf main_v23 main_v35
  let main_cst_8 : FVec F S_ .f32 := constant S_ .f32 0x3727C5AC#32
  let main_v37 : FVec F S8x8192x1 .f32 := broadcastInDim S8x8192x1 ![] bcast_S_S8x8192x1 main_cst_8
  fn_part2 (F := F) main_arg0 main_arg1 main_arg2 main_arg3 main_arg4 main_arg5 main_arg6 main_arg7 main_arg8 main_arg12 main_arg13 main_arg14 main_arg15 main_arg16 main_v34 main_v36 main_v37

def fn {F : FTy → Type} [FloatOps F] (main_arg0 : FVec F S8x8192x1024 .f32) (main_arg1 : FVec F S1x1x1024 .f32) (main_arg2 : FVec F S1024 .f32) (main_arg3 : FVec F S1024 .f32) (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024x1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024x1024 .f32) (main_arg19 : FVec F S1024 .f32) : IVec S8x16x1x8192 1 :=
  let main_cst : FVec F S_ .f32 := constant S_ .f32 0x00000000#32
  let main_v0 : FVec F S8x8192 .f32 := (fun x v => Host.reduceAdd x v reducesTo_S8x8192x1024_S8x8192_d2 h_S_) main_arg0 main_cst
  let main_v1 : FVec F S8x8192x1 .f32 := broadcastInDim S8x8192x1 ![0, 1] bcast_S8x8192_S8x8192x1_0_1 main_v0
  let main_cst_0 : FVec F S_ .f32 := constant S_ .f32 0x44800000#32
  let main_v2 : FVec F S8x8192x1 .f32 := broadcastInDim S8x8192x1 ![] bcast_S_S8x8192x1 main_cst_0
  let main_v3 : FVec F S8x8192x1 .f32 := Host.divf main_v1 main_v2
  let main_v4 : FVec F S8x8192x1024 .f32 := broadcastInDim S8x8192x1024 ![0, 1, 2] bcast_S8x8192x1_S8x8192x1024_0_1_2 main_v3
  let main_v5 : FVec F S8x8192x1024 .f32 := subf main_arg0 main_v4
  let main_v6 : FVec F S8x8192x1024 .f32 := mulf main_v5 main_v5
  let main_cst_1 : FVec F S_ .f32 := constant S_ .f32 0x00000000#32
  let main_v7 : FVec F S8x8192 .f32 := (fun x v => Host.reduceAdd x v reducesTo_S8x8192x1024_S8x8192_d2 h_S_) main_v6 main_cst_1
  let main_v8 : FVec F S8x8192x1 .f32 := broadcastInDim S8x8192x1 ![0, 1] bcast_S8x8192_S8x8192x1_0_1 main_v7
  let main_cst_2 : FVec F S_ .f32 := constant S_ .f32 0x44800000#32
  let main_v9 : FVec F S8x8192x1 .f32 := broadcastInDim S8x8192x1 ![] bcast_S_S8x8192x1 main_cst_2
  let main_v10 : FVec F S8x8192x1 .f32 := Host.divf main_v8 main_v9
  let main_v11 : FVec F S8x8192x1024 .f32 := broadcastInDim S8x8192x1024 ![0, 1, 2] bcast_S8x8192x1_S8x8192x1024_0_1_2 main_v3
  let main_v12 : FVec F S8x8192x1024 .f32 := subf main_arg0 main_v11
  let main_cst_3 : FVec F S_ .f32 := constant S_ .f32 0x3727C5AC#32
  let main_v13 : FVec F S8x8192x1 .f32 := broadcastInDim S8x8192x1 ![] bcast_S_S8x8192x1 main_cst_3
  let main_v14 : FVec F S8x8192x1 .f32 := addf main_v10 main_v13
  let main_v15 : FVec F S8x8192x1 .f32 := Host.rsqrt main_v14
  let main_v16 : FVec F S8x8192x1024 .f32 := broadcastInDim S8x8192x1024 ![0, 1, 2] bcast_S8x8192x1_S8x8192x1024_0_1_2 main_v15
  let main_v17 : FVec F S8x8192x1024 .f32 := mulf main_v12 main_v16
  let main_v18 : FVec F S1x1x1024 .f32 := broadcastInDim S1x1x1024 ![2] bcast_S1024_S1x1x1024_2 main_arg2
  fn_part1 (F := F) main_arg0 main_arg1 main_arg2 main_arg3 main_arg4 main_arg5 main_arg6 main_arg7 main_arg8 main_arg12 main_arg13 main_arg14 main_arg15 main_arg16 main_v17 main_v18
-- ==== Kernel.lean ====
abbrev S8x8192x1024 : Shape := ⟨3, ![8, 8192, 1024]⟩
abbrev S1x1x1024 : Shape := ⟨3, ![1, 1, 1024]⟩
abbrev S1024 : Shape := ⟨1, ![1024]⟩
abbrev S1024x1024 : Shape := ⟨2, ![1024, 1024]⟩
abbrev S1x1024 : Shape := ⟨2, ![1, 1024]⟩
abbrev S1024x256 : Shape := ⟨2, ![1024, 256]⟩
abbrev S1x128 : Shape := ⟨2, ![1, 128]⟩
abbrev S8x128 : Shape := ⟨2, ![8, 128]⟩
abbrev S8x1024 : Shape := ⟨2, ![8, 1024]⟩
abbrev S1 : Shape := ⟨1, ![1]⟩
abbrev S1x1 : Shape := ⟨2, ![1, 1]⟩
abbrev S128x1024 : Shape := ⟨2, ![128, 1024]⟩
abbrev S4x128 : Shape := ⟨2, ![4, 128]⟩
abbrev S256x1024 : Shape := ⟨2, ![256, 1024]⟩
abbrev S4x1024 : Shape := ⟨2, ![4, 1024]⟩
abbrev S8x1x1024 : Shape := ⟨3, ![8, 1, 1024]⟩
abbrev S1x4096x1024 : Shape := ⟨3, ![1, 4096, 1024]⟩
abbrev S1024x128 : Shape := ⟨2, ![1024, 128]⟩
abbrev S4096x1024 : Shape := ⟨2, ![4096, 1024]⟩
abbrev S4096x256 : Shape := ⟨2, ![4096, 256]⟩
abbrev S4096x8 : Shape := ⟨2, ![4096, 8]⟩
abbrev S8x4096 : Shape := ⟨2, ![8, 4096]⟩
abbrev S1x4096 : Shape := ⟨2, ![1, 4096]⟩
abbrev S3x4096 : Shape := ⟨2, ![3, 4096]⟩
abbrev S3x128 : Shape := ⟨2, ![3, 128]⟩
abbrev S5x128 : Shape := ⟨2, ![5, 128]⟩
abbrev S4096x128 : Shape := ⟨2, ![4096, 128]⟩
abbrev S128 : Shape := ⟨1, ![128]⟩
abbrev S1x16 : Shape := ⟨2, ![1, 16]⟩
abbrev S1024x16 : Shape := ⟨2, ![1024, 16]⟩
abbrev S16x1024 : Shape := ⟨2, ![16, 1024]⟩
abbrev S4x16 : Shape := ⟨2, ![4, 16]⟩

abbrev nBuf : Space → Nat
  | .hbm => 42
  | .vmem => 36
  | .smem => 0
  | _ => 0

abbrev bufTy : (tb : Table) → Fin (tcTables nBuf tb) → BufTy
  | .hbm, ⟨0, _⟩ => ⟨S8x8192x1024, .f32⟩
  | .hbm, ⟨1, _⟩ => ⟨S1x1x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1024x256, .bf16⟩
  | .hbm, ⟨32, _⟩ => ⟨S1x128, .f32⟩
  | .hbm, ⟨33, _⟩ => ⟨S8x128, .f32⟩
  | .hbm, ⟨34, _⟩ => ⟨S1024x1024, .bf16⟩
  | .hbm, ⟨35, _⟩ => ⟨S8x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S8x1x1024, .f32⟩
  | .hbm, ⟨41, _⟩ => ⟨S8x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x256, .bf16⟩
  | .local _ .vmem, ⟨15, _⟩ => ⟨S1x128, .f32⟩
  | .local _ .vmem, ⟨16, _⟩ => ⟨S8x128, .f32⟩
  | .local _ .vmem, ⟨17, _⟩ => ⟨S1024x1024, .bf16⟩
  | .local _ .vmem, ⟨18, _⟩ => ⟨S8x1024, .f32⟩
  | .local _ .vmem, ⟨19, _⟩ => ⟨S1x4096x1024, .f32⟩
  | .local _ .vmem, ⟨20, _⟩ => ⟨S1x4096x1024, .f32⟩
  | .local _ .vmem, ⟨21, _⟩ => ⟨S1024x256, .bf16⟩
  | .local _ .vmem, ⟨22, _⟩ => ⟨S1x128, .f32⟩
  | .local _ .vmem, ⟨23, _⟩ => ⟨S8x128, .f32⟩
  | .local _ .vmem, ⟨24, _⟩ => ⟨S1024x1024, .bf16⟩
  | .local _ .vmem, ⟨25, _⟩ => ⟨S8x1024, .f32⟩
  | .local _ .vmem, ⟨26, _⟩ => ⟨S1x1024, .f32⟩
  | .local _ .vmem, ⟨27, _⟩ => ⟨S1024x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x128, .f32⟩
  | .local _ .vmem, ⟨34, _⟩ => ⟨S8x128, .f32⟩
  | .local _ .vmem, ⟨35, _⟩ => ⟨S1024x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v11_2 : Ref sig .tc := ⟨.hbm, 33, rfl⟩
abbrev main_v11_3 : Ref sig .tc := ⟨.hbm, 34, rfl⟩
abbrev main_v11_4 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg11_1 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v119 : BitVec 1 := Scalar.cmpi .eq arg1 c1_i32
  let v120 : BitVec 32 := Scalar.extui v119
  let c0_i32_36 : BitVec 32 := 0#32
  let v121 : BitVec 1 := Scalar.cmpi .ne v120 c0_i32_36
  v121

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x1x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== KernelIdeal.lean ====
variable {F : FTy → Type} [FloatOps F] [Named F]
def κ : String → Option EReal := fun
  | "neg" => some ⊥
  | _ => none
-- ==== ReferenceIdeal.lean ====
abbrev S8x8192x1024 : Shape := ⟨3, ![8, 8192, 1024]⟩
abbrev S1x1x1024 : Shape := ⟨3, ![1, 1, 1024]⟩
abbrev S1024 : Shape := ⟨1, ![1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S8x1x1024 : Shape := ⟨3, ![8, 1, 1024]⟩
abbrev S8x1 : Shape := ⟨2, ![8, 1]⟩
abbrev S8x1x1 : Shape := ⟨3, ![8, 1, 1]⟩
abbrev S8x1x16x64 : Shape := ⟨4, ![8, 1, 16, 64]⟩
abbrev S8x8192x16x64 : Shape := ⟨4, ![8, 8192, 16, 64]⟩
abbrev S8x16x1x8192 : Shape := ⟨4, ![8, 16, 1, 8192]⟩
abbrev S8x16x1 : Shape := ⟨3, ![8, 16, 1]⟩
abbrev S8x16x1x1 : Shape := ⟨4, ![8, 16, 1, 1]⟩
abbrev S8x16x64x1 : Shape := ⟨4, ![8, 16, 64, 1]⟩
abbrev S8x1024 : Shape := ⟨2, ![8, 1024]⟩

abbrev nBuf : Space → Nat
  | .hbm => 222
  | .vmem => 0
  | .smem => 0
  | _ => 0

abbrev hbmTy0_0 (i : Nat) : BufTy := match i % 128 with
  | 0 => ⟨S8x8192x1024, .f32⟩
  | 1 => ⟨S1x1x1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024x1024, .f32⟩
  | 13 => ⟨S1024, .f32⟩
  | 14 => ⟨S1024x1024, .f32⟩
  | 15 => ⟨S1024, .f32⟩
  | 16 => ⟨S1024x1024, .f32⟩
  | 17 => ⟨S1024, .f32⟩
  | 18 => ⟨S1024x1024, .f32⟩
  | 19 => ⟨S1024, .f32⟩
  | 20 => ⟨S_, .f32⟩
  | 21 => ⟨S8x8192, .f32⟩
  | 22 => ⟨S8x8192x1, .f32⟩
  | 23 => ⟨S_, .f32⟩
  | 24 => ⟨S8x8192x1, .f32⟩
  | 25 => ⟨S8x8192x1, .f32⟩
  | 26 => ⟨S8x8192x1024, .f32⟩
  | 27 => ⟨S8x8192x1024, .f32⟩
  | 28 => ⟨S8x8192x1024, .f32⟩
  | 29 => ⟨S_, .f32⟩
  | 30 => ⟨S8x8192, .f32⟩
  | 31 => ⟨S8x8192x1, .f32⟩
  | 32 => ⟨S_, .f32⟩
  | 33 => ⟨S8x8192x1, .f32⟩
  | 34 => ⟨S8x8192x1, .f32⟩
  | 35 => ⟨S8x8192x1024, .f32⟩
  | 36 => ⟨S8x8192x1024, .f32⟩
  | 37 => ⟨S_, .f32⟩
  | 38 => ⟨S8x8192x1, .f32⟩
  | 39 => ⟨S8x8192x1, .f32⟩
  | 40 => ⟨S8x8192x1, .f32⟩
  | 41 => ⟨S8x8192x1024, .f32⟩
  | 42 => ⟨S8x8192x1024, .f32⟩
  | 43 => ⟨S1x1x1024, .f32⟩
  | 44 => ⟨S8x8192x1024, .f32⟩
  | 45 => ⟨S8x8192x1024, .f32⟩
  | 46 => ⟨S1x1x1024, .f32⟩
  | 47 => ⟨S8x8192x1024, .f32⟩
  | 48 => ⟨S8x8192x1024, .f32⟩
  | 49 => ⟨S8x1x1024, .f32⟩
  | 50 => ⟨S_, .f32⟩
  | 51 => ⟨S8x1, .f32⟩
  | 52 => ⟨S8x1x1, .f32⟩
  | 53 => ⟨S_, .f32⟩
  | 54 => ⟨S8x1x1, .f32⟩
  | 55 => ⟨S8x1x1, .f32⟩
  | 56 => ⟨S8x1x1024, .f32⟩
  | 57 => ⟨S8x1x1024, .f32⟩
  | 58 => ⟨S8x1x1024, .f32⟩
  | 59 => ⟨S_, .f32⟩
  | 60 => ⟨S8x1, .f32⟩
  | 61 => ⟨S8x1x1, .f32⟩
  | 62 => ⟨S_, .f32⟩
  | 63 => ⟨S8x1x1, .f32⟩
  | 64 => ⟨S8x1x1, .f32⟩
  | 65 => ⟨S8x1x1024, .f32⟩
  | 66 => ⟨S8x1x1024, .f32⟩
  | 67 => ⟨S_, .f32⟩
  | 68 => ⟨S8x1x1, .f32⟩
  | 69 => ⟨S8x1x1, .f32⟩
  | 70 => ⟨S8x1x1, .f32⟩
  | 71 => ⟨S8x1x1024, .f32⟩
  | 72 => ⟨S8x1x1024, .f32⟩
  | 73 => ⟨S1x1x1024, .f32⟩
  | 74 => ⟨S8x1x1024, .f32⟩
  | 75 => ⟨S8x1x1024, .f32⟩
  | 76 => ⟨S1x1x1024, .f32⟩
  | 77 => ⟨S8x1x1024, .f32⟩
  | 78 => ⟨S8x1x1024, .f32⟩
  | 79 => ⟨S_, .f32⟩
  | 80 => ⟨S8x8192, .f32⟩
  | 81 => ⟨S8x8192x1, .f32⟩
  | 82 => ⟨S_, .f32⟩
  | 83 => ⟨S8x8192x1, .f32⟩
  | 84 => ⟨S8x8192x1, .f32⟩
  | 85 => ⟨S8x8192x1024, .f32⟩
  | 86 => ⟨S8x8192x1024, .f32⟩
  | 87 => ⟨S8x8192x1024, .f32⟩
  | 88 => ⟨S_, .f32⟩
  | 89 => ⟨S8x8192, .f32⟩
  | 90 => ⟨S8x8192x1, .f32⟩
  | 91 => ⟨S_, .f32⟩
  | 92 => ⟨S8x8192x1, .f32⟩
  | 93 => ⟨S8x8192x1, .f32⟩
  | 94 => ⟨S8x8192x1024, .f32⟩
  | 95 => ⟨S8x8192x1024, .f32⟩
  | 96 => ⟨S_, .f32⟩
  | 97 => ⟨S8x8192x1, .f32⟩
  | 98 => ⟨S8x8192x1, .f32⟩
  | 99 => ⟨S8x8192x1, .f32⟩
  | 100 => ⟨S8x8192x1024, .f32⟩
  | 101 => ⟨S8x8192x1024, .f32⟩
  | 102 => ⟨S1x1x1024, .f32⟩
  | 103 => ⟨S8x8192x1024, .f32⟩
  | 104 => ⟨S8x8192x1024, .f32⟩
  | 105 => ⟨S1x1x1024, .f32⟩
  | 106 => ⟨S8x8192x1024, .f32⟩
  | 107 => ⟨S8x8192x1024, .f32⟩
  | 108 => ⟨S_, .f32⟩
  | 109 => ⟨S8x8192, .f32⟩
  | 110 => ⟨S8x8192x1, .f32⟩
  | 111 => ⟨S_, .f32⟩
  | 112 => ⟨S8x8192x1, .f32⟩
  | 113 => ⟨S8x8192x1, .f32⟩
  | 114 => ⟨S8x8192x1024, .f32⟩
  | 115 => ⟨S8x8192x1024, .f32⟩
  | 116 => ⟨S8x8192x1024, .f32⟩
  | 117 => ⟨S_, .f32⟩
  | 118 => ⟨S8x8192, .f32⟩
  | 119 => ⟨S8x8192x1, .f32⟩
  | 120 => ⟨S_, .f32⟩
  | 121 => ⟨S8x8192x1, .f32⟩
  | 122 => ⟨S8x8192x1, .f32⟩
  | 123 => ⟨S8x8192x1024, .f32⟩
  | 124 => ⟨S8x8192x1024, .f32⟩
  | 125 => ⟨S_, .f32⟩
  | 126 => ⟨S8x8192x1, .f32⟩
  | 127 => ⟨S8x8192x1, .f32⟩
  | _ => ⟨S8x8192x1024, .f32⟩

abbrev hbmTy0_1 (i : Nat) : BufTy := match i % 128 with
  | 0 => ⟨S8x8192x1, .f32⟩
  | 1 => ⟨S8x8192x1024, .f32⟩
  | 2 => ⟨S8x8192x1024, .f32⟩
  | 3 => ⟨S1x1x1024, .f32⟩
  | 4 => ⟨S8x8192x1024, .f32⟩
  | 5 => ⟨S8x8192x1024, .f32⟩
  | 6 => ⟨S1x1x1024, .f32⟩
  | 7 => ⟨S8x8192x1024, .f32⟩
  | 8 => ⟨S8x8192x1024, .f32⟩
  | 9 => ⟨S1024x1024, .f32⟩
  | 10 => ⟨S8x1x1024, .f32⟩
  | 11 => ⟨S1x1x1024, .f32⟩
  | 12 => ⟨S8x1x1024, .f32⟩
  | 13 => ⟨S8x1x1024, .f32⟩
  | 14 => ⟨S8x1x16x64, .f32⟩
  | 15 => ⟨S1024x1024, .f32⟩
  | 16 => ⟨S8x8192x1024, .f32⟩
  | 17 => ⟨S1x1x1024, .f32⟩
  | 18 => ⟨S8x8192x1024, .f32⟩
  | 19 => ⟨S8x8192x1024, .f32⟩
  | 20 => ⟨S8x8192x16x64, .f32⟩
  | 21 => ⟨S1024x1024, .f32⟩
  | 22 => ⟨S8x8192x1024, .f32⟩
  | 23 => ⟨S1x1x1024, .f32⟩
  | 24 => ⟨S8x8192x1024, .f32⟩
  | 25 => ⟨S8x8192x1024, .f32⟩
  | 26 => ⟨S8x8192x16x64, .f32⟩
  | 27 => ⟨S_, .f32⟩
  | 28 => ⟨S_, .f32⟩
  | 29 => ⟨S_, .f32⟩
  | 30 => ⟨S_, .f32⟩
  | 31 => ⟨S8x1x16x64, .f32⟩
  | 32 => ⟨S8x1x16x64, .f32⟩
  | 33 => ⟨S8x16x1x8192, .f32⟩
  | 34 => ⟨S_, .f32⟩
  | 35 => ⟨S8x16x1, .f32⟩
  | 36 => ⟨S8x16x1x1, .f32⟩
  | 37 => ⟨S8x16x1x8192, .f32⟩
  | 38 => ⟨S8x16x1x8192, .f32⟩
  | 39 => ⟨S8x16x1x8192, .f32⟩
  | 40 => ⟨S_, .f32⟩
  | 41 => ⟨S8x16x1, .f32⟩
  | 42 => ⟨S8x16x1x1, .f32⟩
  | 43 => ⟨S_, .f32⟩
  | 44 => ⟨S8x16x1x1, .f32⟩
  | 45 => ⟨S8x16x1x1, .f32⟩
  | 46 => ⟨S8x16x1x8192, .f32⟩
  | 47 => ⟨S8x16x1x8192, .f32⟩
  | 48 => ⟨S_, .f32⟩
  | 49 => ⟨S_, .f32⟩
  | 50 => ⟨S_, .f32⟩
  | 51 => ⟨S8x16x1x8192, .f32⟩
  | 52 => ⟨S8x16x1x8192, .f32⟩
  | 53 => ⟨S_, .f32⟩
  | 54 => ⟨S8x16x1x8192, .f32⟩
  | 55 => ⟨S8x16x1x8192, .f32⟩
  | 56 => ⟨S8x16x64x1, .f32⟩
  | 57 => ⟨S8x1x16x64, .f32⟩
  | 58 => ⟨S8x1x1024, .f32⟩
  | 59 => ⟨S1024x1024, .f32⟩
  | 60 => ⟨S8x1x1024, .f32⟩
  | 61 => ⟨S1x1x1024, .f32⟩
  | 62 => ⟨S8x1x1024, .f32⟩
  | 63 => ⟨S8x1x1024, .f32⟩
  | 64 => ⟨S_, .f32⟩
  | 65 => ⟨S8x1, .f32⟩
  | 66 => ⟨S8x1x1, .f32⟩
  | 67 => ⟨S_, .f32⟩
  | 68 => ⟨S8x1x1, .f32⟩
  | 69 => ⟨S8x1x1, .f32⟩
  | 70 => ⟨S8x1x1024, .f32⟩
  | 71 => ⟨S8x1x1024, .f32⟩
  | 72 => ⟨S8x1x1024, .f32⟩
  | 73 => ⟨S_, .f32⟩
  | 74 => ⟨S8x1, .f32⟩
  | 75 => ⟨S8x1x1, .f32⟩
  | 76 => ⟨S_, .f32⟩
  | 77 => ⟨S8x1x1, .f32⟩
  | 78 => ⟨S8x1x1, .f32⟩
  | 79 => ⟨S8x1x1024, .f32⟩
  | 80 => ⟨S8x1x1024, .f32⟩
  | 81 => ⟨S_, .f32⟩
  | 82 => ⟨S8x1x1, .f32⟩
  | 83 => ⟨S8x1x1, .f32⟩
  | 84 => ⟨S8x1x1, .f32⟩
  | 85 => ⟨S8x1x1024, .f32⟩
  | 86 => ⟨S8x1x1024, .f32⟩
  | 87 => ⟨S1x1x1024, .f32⟩
  | 88 => ⟨S8x1x1024, .f32⟩
  | 89 => ⟨S8x1x1024, .f32⟩
  | 90 => ⟨S1x1x1024, .f32⟩
  | 91 => ⟨S8x1x1024, .f32⟩
  | 92 => ⟨S8x1x1024, .f32⟩
  | 93 => ⟨S8x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_16 : Ref sig .tc := ⟨.hbm, 117, rfl⟩
abbrev main_v80 : Ref sig .tc := ⟨.hbm, 118, rfl⟩
abbrev main_v81 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_19 : Ref sig .tc := ⟨.hbm, 155, rfl⟩
abbrev main_v115 : Ref sig .tc := ⟨.hbm, 156, rfl⟩
abbrev main_cst_20 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_21 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_22 : Ref sig .tc := ⟨.hbm, 168, rfl⟩
abbrev main_v125 : Ref sig .tc := ⟨.hbm, 169, rfl⟩
abbrev main_v126 : Ref sig .tc := ⟨.hbm, 170, rfl⟩
abbrev main_cst_23 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_24 : Ref sig .tc := ⟨.hbm, 176, rfl⟩
abbrev main_cst_25 : Ref sig .tc := ⟨.hbm, 177, rfl⟩
abbrev main_call0_v0 : Ref sig .tc := ⟨.hbm, 178, rfl⟩
abbrev main_call0_v1 : Ref sig .tc := ⟨.hbm, 179, rfl⟩
abbrev main_call0_v2 : Ref sig .tc := ⟨.hbm, 180, rfl⟩
abbrev main_call0_v3 : Ref sig .tc := ⟨.hbm, 181, rfl⟩
abbrev main_call0_v4 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_26 : Ref sig .tc := ⟨.hbm, 192, rfl⟩
abbrev main_v140 : Ref sig .tc := ⟨.hbm, 193, rfl⟩
abbrev main_v141 : Ref sig .tc := ⟨.hbm, 194, rfl⟩
abbrev main_cst_27 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_28 : Ref sig .tc := ⟨.hbm, 201, rfl⟩
abbrev main_v147 : Ref sig .tc := ⟨.hbm, 202, rfl⟩
abbrev main_v148 : Ref sig .tc := ⟨.hbm, 203, rfl⟩
abbrev main_cst_29 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_30 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩

abbrev nD : Nat := 1
abbrev τ : Topo := Topo.v7x

variable {F : FTy → Type} [FloatOps F]
-- ==== Proof.KernelIdeal.Prologue.lean ====
/- The first pallas_call of `KernelIdeal` (the prologue) as a region of @main: what its body leaves in its five results. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.Frame
public import Idealize.ShloMosaic.Lib.Pipeline.Regions

@[expose] public section

-- membership in rectangles of long axes recurses past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the buffers' contents when the region is entered
variable (V : (c : Dev nD) → (b : Ref sig .tc) → Buf (Elt F) ((c : Thread nD τ).loc b))
/-! # REGION 0 of @main: custom_call 0, `cc0_pool_prologue` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1024 := Rect.unit (s := S1x1024) ![0, 0] S1x1024.size inb_S1x1024_S1x1024_0_0
abbrev r0_1 : Rect S1024x1024 := Rect.unit (s := S1024x1024) ![0, 0] S1024x1024.size inb_S1024x1024_S1024x1024_0_0
abbrev r0_2 : Rect S1x128 := Rect.unit (s := S1x128) ![0, 0] S1x128.size inb_S1x128_S1x128_0_0
abbrev r0_3 : Rect S8x128 := Rect.unit (s := S8x128) ![0, 0] S8x128.size inb_S8x128_S8x128_0_0
abbrev r0_4 : Rect S1024x256 := Rect.unit (s := S1024x256) ![0, 0] S1024x256.size inb_S1024x256_S1024x256_0_0
abbrev r0_5 : Rect S8x1024 := Rect.unit (s := S8x1024) ![0, 0] S8x1024.size inb_S8x1024_S8x1024_0_0

/-! ## What the body leaves in each output window's buffer -/

/-! ### Values of the body that the stores' payloads, spelt out, would write more than once

    Each is a vector the body binds (often a part call's result), stated over the input windows' blocks and
    numbered on from the skeleton's payload functions (`k0_pay26` …, after `k0_pay25`), so that
    `out0_W` and the values after it name it instead of spelling it out; the comment after each is the printed function's
    name for the value (a count appended where that name is bound again). -/

def k0_pay26 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : IVec S128x1024 32 :=
  iota .tc S128x1024 32 [1] iota_S128x1024_d1_w32 -- `v36`
def k0_pay27 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : IVec S128x1024 32 :=
  iota .tc S128x1024 32 [0] iota_S128x1024_d0_w32 -- `v37`
def k0_pay28 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : FVec F S1x1024 .f32 :=
  k0_pay4 (View.ld x12 r0_0) -- `v1`
def k0_pay29 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : FVec F S1x1024 .f32 :=
  k0_pay5 (View.ld x13 r0_0) -- `v3`
def k0_pay30 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : FVec F S1x1024 .f32 :=
  k0_pay6 (F := F) -- `v4`
def k0_pay31 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : FVec F S1x1024 .f32 :=
  k0_pay7 (View.ld x0 r0_0) (View.ld x1 r0_0) (View.ld x2 r0_0) (View.ld x3 r0_1) (View.ld x4 r0_0) -- `v35`
def k0_pay32 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : IVec S1x128 32 :=
  iota .tc S1x128 32 [1] iota_S1x128_d1_w32 -- `v77`
def k0_pay33 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : FVec F S128x1024 .f32 :=
  k0_pay9 (k0_pay31 x0 x1 x2 x3 x4 x5 x6 x7 x8 x9 x10 x11 x12 x13) (k0_pay26 x0 x1 x2 x3 x4 x5 x6 x7 x8 x9 x10 x11 x12 x13) (k0_pay27 x0 x1 x2 x3 x4 x5 x6 x7 x8 x9 x10 x11 x12 x13) (View.ld x5 r0_1) -- `v69`

/-- Window 14's staging buffer after the body, from the input windows' blocks: its 1 store as pieces, LAST
    FIRST (Lib/Pipeline/FrameBody.lean `View.canon`; the payloads are the skeleton's and the values stated above). -/
def out0_14 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : Vec F S1024x256 .bf16 :=
  View.canon [⟨r0_4, k0_pay25 (k0_pay28 x0 x1 x2 x3 x4 x5 x6 x7 x8 x9 x10 x11 x12 x13) (k0_pay29 x0 x1 x2 x3 x4 x5 x6 x7 x8 x9 x10 x11 x12 x13) (k0_pay27 x0 x1 x2 x3 x4 x5 x6 x7 x8 x9 x10 x11 x12 x13) (k0_pay12 (k0_pay33 x0 x1 x2 x3 x4 x5 x6 x7 x8 x9 x10 x11 x12 x13) (View.ld x7 r0_0)) (k0_pay23 (k0_pay27 x0 x1 x2 x3 x4 x5 x6 x7 x8 x9 x10 x11 x12 x13)) (Scalar.ofBits .f32 0x00000000#32) (k0_pay24 (F := F))⟩]

/-- Its stores tile the buffer (checked by evaluation), so they cover it. -/
theorem cover0_14 (p0 : Vec F S1024x256 .bf16) (y : S1024x256.Idx) :
    ∃ pc ∈ ([⟨r0_4, p0⟩] : List (View.Piece (Elt F) S1024x256 .bf16)), y ∈ pc.1.set :=
  View.cover_of_tiled [⟨r0_4, p0⟩] S1024x256.size (by rfl) y

def out0_15 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : Vec F S1x128 .f32 :=
  View.canon [⟨r0_2, k0_pay11 (k0_pay32 x0 x1 x2 x3 x4 x5 x6 x7 x8 x9 x10 x11 x12 x13) (k0_pay10 (k0_pay31 x0 x1 x2 x3 x4 x5 x6 x7 x8 x9 x10 x11 x12 x13) (k0_pay26 x0 x1 x2 x3 x4 x5 x6 x7 x8 x9 x10 x11 x12 x13) (k0_pay27 x0 x1 x2 x3 x4 x5 x6 x7 x8 x9 x10 x11 x12 x13) (View.ld x5 r0_1) (View.ld x6 r0_0) (View.ld x8 r0_0)) 16#32⟩]

theorem cover0_15 (p0 : Vec F S1x128 .f32) (y : S1x128.Idx) :
    ∃ pc ∈ ([⟨r0_2, p0⟩] : List (View.Piece (Elt F) S1x128 .f32)), y ∈ pc.1.set :=
  View.cover_of_tiled [⟨r0_2, p0⟩] S1x128.size (by rfl) y

def out0_16 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : Vec F S8x128 .f32 :=
  View.canon [⟨r0_3, k0_pay22 (k0_pay32 x0 x1 x2 x3 x4 x5 x6 x7 x8 x9 x10 x11 x12 x13) (k0_pay13 (k0_pay29 x0 x1 x2 x3 x4 x5 x6 x7 x8 x9 x10 x11 x12 x13) (k0_pay33 x0 x1 x2 x3 x4 x5 x6 x7 x8 x9 x10 x11 x12 x13) (View.ld x7 r0_0)) (k0_pay14 (k0_pay30 x0 x1 x2 x3 x4 x5 x6 x7 x8 x9 x10 x11 x12 x13) (k0_pay33 x0 x1 x2 x3 x4 x5 x6 x7 x8 x9 x10 x11 x12 x13) (View.ld x7 r0_0)) (k0_pay15 (k0_pay28 x0 x1 x2 x3 x4 x5 x6 x7 x8 x9 x10 x11 x12 x13) (k0_pay33 x0 x1 x2 x3 x4 x5 x6 x7 x8 x9 x10 x11 x12 x13) (View.ld x7 r0_0)) (k0_pay16 (k0_pay28 x0 x1 x2 x3 x4 x5 x6 x7 x8 x9 x10 x11 x12 x13)) (k0_pay17 (k0_pay29 x0 x1 x2 x3 x4 x5 x6 x7 x8 x9 x10 x11 x12 x13)) (k0_pay18 (k0_pay28 x0 x1 x2 x3 x4 x5 x6 x7 x8 x9 x10 x11 x12 x13)) (k0_pay19 (k0_pay28 x0 x1 x2 x3 x4 x5 x6 x7 x8 x9 x10 x11 x12 x13) (k0_pay29 x0 x1 x2 x3 x4 x5 x6 x7 x8 x9 x10 x11 x12 x13)) (k0_pay20 (k0_pay29 x0 x1 x2 x3 x4 x5 x6 x7 x8 x9 x10 x11 x12 x13)) (k0_pay21 (k0_pay32 x0 x1 x2 x3 x4 x5 x6 x7 x8 x9 x10 x11 x12 x13))⟩]

theorem cover0_16 (p0 : Vec F S8x128 .f32) (y : S8x128.Idx) :
    ∃ pc ∈ ([⟨r0_3, p0⟩] : List (View.Piece (Elt F) S8x128 .f32)), y ∈ pc.1.set :=
  View.cover_of_tiled [⟨r0_3, p0⟩] S8x128.size (by rfl) y

def out0_17 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : Vec F S1024x1024 .bf16 :=
  View.canon [⟨r0_1, k0_pay2 (k0_pay28 x0 x1 x2 x3 x4 x5 x6 x7 x8 x9 x10 x11 x12 x13) (View.ld x9 r0_1) (View.ld x10 r0_0)⟩]

theorem cover0_17 (p0 : Vec F S1024x1024 .bf16) (y : S1024x1024.Idx) :
    ∃ pc ∈ ([⟨r0_1, p0⟩] : List (View.Piece (Elt F) S1024x1024 .bf16)), y ∈ pc.1.set :=
  View.cover_of_tiled [⟨r0_1, p0⟩] S1024x1024.size (by rfl) y

def out0_18 (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) : Vec F S8x1024 .f32 :=
  View.canon [⟨r0_5, k0_pay3 (k0_pay28 x0 x1 x2 x3 x4 x5 x6 x7 x8 x9 x10 x11 x12 x13) (k0_pay29 x0 x1 x2 x3 x4 x5 x6 x7 x8 x9 x10 x11 x12 x13) (k0_pay30 x0 x1 x2 x3 x4 x5 x6 x7 x8 x9 x10 x11 x12 x13) (View.ld x9 r0_1) (View.ld x10 r0_0) (View.ld x11 r0_0) (View.ld x9 r0_1)⟩]

theorem cover0_18 (p0 : Vec F S8x1024 .f32) (y : S8x1024.Idx) :
    ∃ pc ∈ ([⟨r0_5, p0⟩] : List (View.Piece (Elt F) S8x1024 .f32)), y ∈ pc.1.set :=
  View.cover_of_tiled [⟨r0_5, p0⟩] S8x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S1x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x256 .bf16) (harg14 : arg14.IsWhole) (arg15 : Memref sig .tc .vmem S1x128 .f32) (harg15 : arg15.IsWhole) (arg16 : Memref sig .tc .vmem S8x128 .f32) (harg16 : arg16.IsWhole) (arg17 : Memref sig .tc .vmem S1024x1024 .bf16) (harg17 : arg17.IsWhole) (arg18 : Memref sig .tc .vmem S8x1024 .f32) (harg18 : arg18.IsWhole)
    (x0 : Vec F S1x1024 .f32) (x1 : Vec F S1x1024 .f32) (x2 : Vec F S1x1024 .f32) (x3 : Vec F S1024x1024 .f32) (x4 : Vec F S1x1024 .f32) (x5 : Vec F S1024x1024 .f32) (x6 : Vec F S1x1024 .f32) (x7 : Vec F S1x1024 .f32) (x8 : Vec F S1x1024 .f32) (x9 : Vec F S1024x1024 .f32) (x10 : Vec F S1x1024 .f32) (x11 : Vec F S1x1024 .f32) (x12 : Vec F S1x1024 .f32) (x13 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (out0_14 x0 x1 x2 x3 x4 x5 x6 x7 x8 x9 x10 x11 x12 x13) ∗ owns (c : Thread nD τ) arg15 fullShare (out0_15 x0 x1 x2 x3 x4 x5 x6 x7 x8 x9 x10 x11 x12 x13) ∗ owns (c : Thread nD τ) arg16 fullShare (out0_16 x0 x1 x2 x3 x4 x5 x6 x7 x8 x9 x10 x11 x12 x13) ∗ owns (c : Thread nD τ) arg17 fullShare (out0_17 x0 x1 x2 x3 x4 x5 x6 x7 x8 x9 x10 x11 x12 x13) ∗ owns (c : Thread nD τ) arg18 fullShare (out0_18 x0 x1 x2 x3 x4 x5 x6 x7 x8 x9 x10 x11 x12 x13)) -∗ K ⟨⟩))
      ⊢ wp frame (wpE (defs₀ (F := F)) Variants.none c none) E (cc0_pool_prologue arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_pool_prologue_eq_skeleton]; unfold cc0_pool_prologue_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  iexists _; isplitr
  swap; · iexact H18
  ipureintro
  refine (View.read_writes_eq_canon _ _ _ (cover0_18 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 19, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel0 c Set.univ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end

end
-- ==== Proof.KernelIdeal.Main.lean ====
/- The second pallas_call of `KernelIdeal` (the pooling) as a region of @main: its body at an even and at an odd grid point,
   and the three scratch buffers carried from point to point. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.Frame
public import Idealize.ShloMosaic.Lib.Pipeline.Regions

@[expose] public section

-- membership in rectangles of long axes recurses past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the buffers' contents when the region is entered
variable (V : (c : Dev nD) → (b : Ref sig .tc) → Buf (Elt F) ((c : Thread nD τ).loc b))
/-! # REGION 1 of @main: custom_call 1, `cc1_pool_main` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 2) — by arithmetic of the point. -/
theorem hcond1_0 : ∀ t : Fin cfg1.N, cond1_0 (grid1.coords t) ↔ t.val % 2 = 0 :=
  (fun t => by
    have ht : t.val < 16 := Nat.lt_of_lt_of_eq t.isLt N_1
    have e0 : (grid1.coords t 0).val = t.val / 2 % 8 := Pipeline.Grid.coords_val t 0 (by decide) rfl
    have e1 : (grid1.coords t 1).val = t.val / 1 % 2 := Pipeline.Grid.coords_val t 1 (by decide) rfl
    simp only [cond1_0, e0, e1]
    word_cmp
   : ∀ t : Fin grid1.N, cond1_0 (grid1.coords t) ↔ t.val % 2 = 0)

abbrev cond1_1 (i : grid1.Coords) : Prop := k1_cond2 i = 1#1
theorem hcond1_1 : ∀ t : Fin cfg1.N, cond1_1 (grid1.coords t) ↔ t.val % 2 = 1 :=
  (fun t => by
    have ht : t.val < 16 := Nat.lt_of_lt_of_eq t.isLt N_1
    have e0 : (grid1.coords t 0).val = t.val / 2 % 8 := Pipeline.Grid.coords_val t 0 (by decide) rfl
    have e1 : (grid1.coords t 1).val = t.val / 1 % 2 := Pipeline.Grid.coords_val t 1 (by decide) rfl
    simp only [cond1_1, k1_cond2, e0, e1]
    word_cmp
   : ∀ t : Fin grid1.N, cond1_1 (grid1.coords t) ↔ t.val % 2 = 1)

/-! ## Where the windows are idle (the printed configuration's table `Cfg.idle`) -/

/-- Window 0 is never idle (an input). -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
/-- At the points of case A the printed configuration (`Cfg.idle`) calls output 11 idle: the case stores nothing into it. -/
theorem idleAt1_11_A : ∀ t : Fin cfg1.N, cond1_0 (grid1.coords t) → ¬cond1_1 (grid1.coords t) → cfg1.idle 11 (grid1.coords t) = true := by decide +kernel
/-- At the points of case A the pipeline does not write output 11's block back. -/
theorem noFlush1_11_A : ∀ t : Fin cfg1.N, cond1_0 (grid1.coords t) → ¬cond1_1 (grid1.coords t) → (cfg1.win 11).flush t = false := by decide +kernel
/-- At the points of case B the printed configuration (`Cfg.idle`) calls output 11 live: the case stores into it. -/
theorem liveAt1_11_B : ∀ t : Fin cfg1.N, ¬cond1_0 (grid1.coords t) → cond1_1 (grid1.coords t) → cfg1.idle 11 (grid1.coords t) = false := by decide +kernel

/-! ## The kernel body on any staging memrefs: a subtype the run finds -/

/-- One staging buffer of output window 11, through which its contents are stated (`View.read_writes_of_cover`: the
    choice does not matter). -/
abbrev VO1_11 : View sig .tc .vmem S1x1x1024 .f32 := (Memref.whole cc1_stg11_0 : Memref sig .tc .vmem S1x1x1024 .f32).view
/-- Each window's current staging memref at point `t`, spelled as the pipeline passes it (`bodyAt1`), and its wholeness. -/
abbrev ms1_0 (t : Fin cfg1.N) : Memref sig .tc .vmem S1x4096x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1024 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1x1024 .f32 := win1_11.stage (cfg1.slots t 11)
abbrev hs1_11 (t : Fin cfg1.N) : (ms1_11 t).IsWhole := hstage1_11 ((cfg1.slots t 11).cast nbuf1_11)
/-- The scratch operands: whole scoped buffers of the kernel's own, passed beside the windows. -/
abbrev scM1_0 : Memref sig .tc .vmem S1x128 .f32 := Memref.whole cc1_scratch0
abbrev scM1_1 : Memref sig .tc .vmem S8x128 .f32 := Memref.whole cc1_scratch1
abbrev scM1_2 : Memref sig .tc .vmem S1024x128 .f32 := Memref.whole cc1_scratch2
/-- The scratch `arg14` the kernel carries between points, as a view: what it holds is stated through it. -/
abbrev VS1_0 : View sig .tc .vmem S1x128 .f32 := scM1_0.view
abbrev VS1_1 : View sig .tc .vmem S8x128 .f32 := scM1_1.view
abbrev VS1_2 : View sig .tc .vmem S1024x128 .f32 := scM1_2.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg16_0), ((c : Thread nD τ).loc cc0_stg16_0) ↦{fullShare} f) ∗ (∃ f : Buf (Elt F) ((c : Thread nD τ).loc cc0_stg17_0), ((c : Thread nD τ).loc cc0_stg17_0) ↦{fullShare} f) ∗ (∃ f : Buf (Elt F) ((c : Thread nD τ).loc cc0_stg18_0), ((c : Thread nD τ).loc cc0_stg18_0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 2, … 14: 8 of 16), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : cond1_0 i) (hc1 : ¬cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) :
    Σ' (L11 : List (View.Piece (Elt F) S1x1x1024 .f32)), Σ' (LS0 : List (View.Piece (Elt F) S1x128 .f32)), Σ' (LS1 : List (View.Piece (Elt F) S8x128 .f32)), { LS2 : List (View.Piece (Elt F) S1024x128 .f32) //
      ∀ (xi11 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc1_pool_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, fun xi11 E K => ?run⟩
  case run =>
    simp only [cc1_pool_main_eq_skeleton]; unfold cc1_pool_main_skel
    simp only [k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    iexists _; iexact HS2

/-- Case A stores nothing into output 11 (the window is idle at its points and not written back there):
    no pieces — a placeholder (junk read back) that nothing consults, since at these points the window is neither
    written back nor read at the next point (Lib/Pipeline.lean "Idle points"). -/
def out1_A_11 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : cond1_0 i) (hc1 : ¬cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) : Vec F S1x1x1024 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1)

/-- Case A's pieces for scratch `arg14`, which the kernel carries between points, cover it: 2 pieces of `S1x128` tiling it (Lib/Ring.lean `Piece.tiledL`). -/
theorem scover1_A_0 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : cond1_0 i) (hc1 : ¬cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (y : S1x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.1 S1x128.size (by sl_kernel_rfl) y

/-- What case A leaves in scratch `arg14`: its pieces read back over junk. -/
def sout1_A_0 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : cond1_0 i) (hc1 : ¬cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) : Vec F S1x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.1)

theorem scover1_A_1 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : cond1_0 i) (hc1 : ¬cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (y : S8x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1 S8x128.size (by sl_kernel_rfl) y

def sout1_A_1 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : cond1_0 i) (hc1 : ¬cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) : Vec F S8x128 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1)

theorem scover1_A_2 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : cond1_0 i) (hc1 : ¬cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (y : S1024x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.2.1 S1024x128.size (by sl_kernel_rfl) y

def sout1_A_2 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : cond1_0 i) (hc1 : ¬cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.2.1)

-- (the run's proof term is large: the definition's epilogue — `abstractNestedProofs` — walks it past the default budget)
set_option maxHeartbeats 1200000 in
/-- What the body's stores leave in each output's staging memref, as pieces (last first) IN CASE B (`scf.if` 0 not taken, `scf.if` 1 taken: points 1, 3, … 15: 8 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) :
    Σ' (L11 : List (View.Piece (Elt F) S1x1x1024 .f32)), Σ' (LS0 : List (View.Piece (Elt F) S1x128 .f32)), Σ' (LS1 : List (View.Piece (Elt F) S8x128 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc1_pool_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc1_pool_main_eq_skeleton]; unfold cc1_pool_main_skel
    simp only [k1_part3_eq_skeleton, k1_part4_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]; · iexists _; iexact HS0
    isplitl [HS1]; · iexists _; iexact HS1
    iexists _; iexact HS2

/-- Case B's pieces for output 11 tile its block (1 store of `S1x1x1024`, checked by the kernel's evaluation: Lib/Ring.lean `Piece.tiledL`, linear in the pieces, through a loop's `@[irreducible]` trip theorem too), so they cover it. -/
theorem cover1_B_11 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) (y : S1x1x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).1 S1x1x1024.size (by sl_kernel_rfl) y

/-- What case B leaves in output 11's staging buffer: its pieces read back over junk. -/
def out1_B_11 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) : Vec F S1x1x1024 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).1)

/-- Case B's pieces for scratch `arg14`, which the kernel carries between points, cover it: 1 piece of `S1x128` tiling it (Lib/Ring.lean `Piece.tiledL`). -/
theorem scover1_B_0 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) (y : S1x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.1 S1x128.size (by sl_kernel_rfl) y

/-- What case B leaves in scratch `arg14`: its pieces read back over junk. -/
def sout1_B_0 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) : Vec F S1x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.1)

theorem scover1_B_1 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) (y : S8x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.2.1 S8x128.size (by sl_kernel_rfl) y

def sout1_B_1 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) : Vec F S8x128 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.2.1)

theorem scover1_B_2 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.2.2.1 S1024x128.size (by sl_kernel_rfl) y

def sout1_B_2 (c : Dev nD) (i : grid1.Coords) (arg2 : Memref sig .tc .vmem S1x4096x1024 .f32) (harg2 : arg2.IsWhole) (arg3 : Memref sig .tc .vmem S1024x256 .bf16) (harg3 : arg3.IsWhole) (arg4 : Memref sig .tc .vmem S1x128 .f32) (harg4 : arg4.IsWhole) (arg5 : Memref sig .tc .vmem S8x128 .f32) (harg5 : arg5.IsWhole) (arg6 : Memref sig .tc .vmem S1024x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x128 .f32) (harg14 : arg14.IsWhole) (arg15 : Memref sig .tc .vmem S8x128 .f32) (harg15 : arg15.IsWhole) (arg16 : Memref sig .tc .vmem S1024x128 .f32) (harg16 : arg16.IsWhole) (hc0 : ¬cond1_0 i) (hc1 : cond1_1 i)
    (x0 : Vec F S1x4096x1024 .f32) (x1 : Vec F S1024x256 .bf16) (x2 : Vec F S1x128 .f32) (x3 : Vec F S8x128 .f32) (x4 : Vec F S1024x1024 .bf16) (x5 : Vec F S8x1024 .f32) (x6 : Vec F S1x1024 .f32) (x7 : Vec F S1024x1024 .f32) (x8 : Vec F S1x1024 .f32) (x9 : Vec F S1x1024 .f32) (x10 : Vec F S1x1024 .f32) (xs0 : Vec F S1x128 .f32) (xs1 : Vec F S8x128 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x1x1024 .f32 × Vec F S1x128 .f32 × Vec F S8x128 .f32 × Vec F S1024x128 .f32
  | 0, hn => (out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩))
  | n + 1, hn =>
    if h0 : (n + 1) % 2 = 0 then
      if h1 : (n + 1) % 2 = 1 then
        False.elim (by have hN : n + 1 < 16 := lt_of_lt_of_eq hn (show cfg1.N = 16 from N_1); omega)
      else
        (out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩))
    else
      if h1 : (n + 1) % 2 = 1 then
        (out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.1 (outsAt1 c n (Nat.lt_of_succ_lt hn)).2.2.1 (outsAt1 c n (Nat.lt_of_succ_lt hn)).2.2.2)
      else
        False.elim (by have hN : n + 1 < 16 := lt_of_lt_of_eq hn (show cfg1.N = 16 from N_1); omega)

/-- `outsAt1` at a point of case A: that case's contents. -/
theorem outsAt1_A (c : Dev nD) (t : Fin cfg1.N) (h0 : t.val % 2 = 0) (h1 : ¬t.val % 2 = 1) :
    outsAt1 V c t.val t.isLt = (out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 2 = 0) (h1 : t.val % 2 = 1) :
    outsAt1 V c t.val t.isLt = (out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg16_0), ((c : Thread nD τ).loc cc0_stg16_0) ↦{fullShare} f) ∗ (∃ f : Buf (Elt F) ((c : Thread nD τ).loc cc0_stg17_0), ((c : Thread nD τ).loc cc0_stg17_0) ↦{fullShare} f) ∗ (∃ f : Buf (Elt F) ((c : Thread nD τ).loc cc0_stg18_0), ((c : Thread nD τ).loc cc0_stg18_0) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg16_0), ((c : Thread nD τ).loc cc0_stg16_0) ↦{fullShare} f) ∗ (∃ f : Buf (Elt F) ((c : Thread nD τ).loc cc0_stg17_0), ((c : Thread nD τ).loc cc0_stg17_0) ↦{fullShare} f) ∗ (∃ f : Buf (Elt F) ((c : Thread nD τ).loc cc0_stg18_0), ((c : Thread nD τ).loc cc0_stg18_0) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_stg15_0), ((c : Thread nD τ).loc cc0_stg15_0) ↦{fullShare} f) ∗ (∃ f : Buf (Elt F) ((c : Thread nD τ).loc cc0_stg16_0), ((c : Thread nD τ).loc cc0_stg16_0) ↦{fullShare} f) ∗ (∃ f : Buf (Elt F) ((c : Thread nD τ).loc cc0_stg17_0), ((c : Thread nD τ).loc cc0_stg17_0) ↦{fullShare} f) ∗ (∃ f : Buf (Elt F) ((c : Thread nD τ).loc cc0_stg18_0), ((c : Thread nD τ).loc cc0_stg18_0) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 2 = 0
  · by_cases h1 : t.val % 2 = 1
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [Dat.leavesExact_idle (dat1 V c) 11 t (idleAt1_11_A t ((hcond1_0 t).mpr h0) (fun h => h1 ((hcond1_1 t).mp h))) (noFlush1_11_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0 sout1_A_1 sout1_A_2; (try dsimp only)
        iintro ⟨⟨⟨HR0, HR1, HR2, HR3, HR4, HR5, HR6, HR7, HR8, HR9, HR10, HR11, HR12, HR13, HR14, HR15, HR16, HR17, HR18, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_A c (grid1.coords t) _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        isplitl [HS2]; · iexact HS2
        iintro ⟨H0, H1, H2, H3, H4, H5, H6, H7, H8, H9, H10, H11, ⟨%es0, HS0⟩, ⟨%es1, HS1⟩, ⟨%es2, HS2⟩⟩
        isplitl [HR0 HR1 HR2 HR3 HR4 HR5 HR6 HR7 HR8 HR9 HR10 HR11 HR12 HR13 HR14 HR15 HR16 HR17 HR18 HS0 HS1 HS2 Hg]
        · isplitl [HR0 HR1 HR2 HR3 HR4 HR5 HR6 HR7 HR8 HR9 HR10 HR11 HR12 HR13 HR14 HR15 HR16 HR17 HR18 HS0 HS1 HS2]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [PhiS_castSucc V c t, PhiS_pos V c _ _ hz]
        rw [outsAt1_A V c t h0 h1]
        unfold sout1_A_0 sout1_A_1 sout1_A_2; (try dsimp only)
        iintro ⟨⟨⟨HR0, HR1, HR2, HR3, HR4, HR5, HR6, HR7, HR8, HR9, HR10, HR11, HR12, HR13, HR14, HR15, HR16, HR17, HR18, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_A c (grid1.coords t) _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        isplitl [HS2]; · iexists _; iexact HS2
        iintro ⟨H0, H1, H2, H3, H4, H5, H6, H7, H8, H9, H10, H11, ⟨%es0, HS0⟩, ⟨%es1, HS1⟩, ⟨%es2, HS2⟩⟩
        isplitl [HR0 HR1 HR2 HR3 HR4 HR5 HR6 HR7 HR8 HR9 HR10 HR11 HR12 HR13 HR14 HR15 HR16 HR17 HR18 HS0 HS1 HS2 Hg]
        · isplitl [HR0 HR1 HR2 HR3 HR4 HR5 HR6 HR7 HR8 HR9 HR10 HR11 HR12 HR13 HR14 HR15 HR16 HR17 HR18 HS0 HS1 HS2]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · by_cases h1 : t.val % 2 = 1
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11_B t (fun h => h0 ((hcond1_0 t).mp h)) ((hcond1_1 t).mpr h1)], after1_11]
      by_cases hz : t.val = 0
      · exfalso; have hN : t.val < 16 := lt_of_lt_of_eq t.isLt (show cfg1.N = 16 from N_1); omega
      · rw [PhiS_castSucc V c t, PhiS_pos V c _ _ hz]
        rw [outsAt1_B V c t h0 h1]
        unfold out1_B_11 sout1_B_0 sout1_B_1 sout1_B_2; (try dsimp only)
        iintro ⟨⟨⟨HR0, HR1, HR2, HR3, HR4, HR5, HR6, HR7, HR8, HR9, HR10, HR11, HR12, HR13, HR14, HR15, HR16, HR17, HR18, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_B c (grid1.coords t) _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [HS0]; · iexact HS0
        isplitl [HS1]; · iexact HS1
        isplitl [HS2]; · iexact HS2
        iintro ⟨H0, H1, H2, H3, H4, H5, H6, H7, H8, H9, H10, ⟨%e11, H11⟩, ⟨%es0, HS0⟩, ⟨%es1, HS1⟩, ⟨%es2, HS2⟩⟩
        isplitl [HR0 HR1 HR2 HR3 HR4 HR5 HR6 HR7 HR8 HR9 HR10 HR11 HR12 HR13 HR14 HR15 HR16 HR17 HR18 HS0 HS1 HS2 Hg]
        · isplitl [HR0 HR1 HR2 HR3 HR4 HR5 HR6 HR7 HR8 HR9 HR10 HR11 HR12 HR13 HR14 HR15 HR16 HR17 HR18 HS0 HS1 HS2]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            isplitl [HR18]
            · iexact HR18
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HR10, HR11, HR12, HR13, HR14, HR15, HR16, HR17, HR18, HS0, HS1, HS2⟩, Hg⟩
  isplitl [HR0 HR1 HR2 HR3 HR4 HR5 HR6 HR7 HR8 HR9 HR10 HR11 HR12 HR13 HR14 HR15 HR16 HR17 HR18 HS0 HS1 HS2]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HS0]
    · iexists _; iexact HS0
    isplitl [HS1]
    · iexists _; iexact HS1
    iexists _; iexact HS2
  iexact Hg

/-- The same after the last point. -/
theorem hout (c : Dev nD) : (dat1 V c).Φ (Fin.last cfg1.N) ⊢ Pipeline.ΦA spec1 c :=
  Phi_out V c _ (by rw [Fin.val_last]; have : cfg1.N = 16 := N_1; omega)

end Regions

end Cert.KernelIdeal.Hand

end

end
-- ==== Proof.KernelIdeal.Run.lean ====
/- The whole of `KernelIdeal`'s @main: host stretches and the two regions in order, from the launch to the return. -/
module

public import proofs.«01_k».proof.Proof.KernelIdeal.Prologue
public import proofs.«01_k».proof.Proof.KernelIdeal.Main
public import Idealize.ShloMosaic.Lib.Pipeline.RegionsLoop
public import Idealize.ShloMosaic.Lib.StableHlo.RunHlo

@[expose] public section

-- membership in rectangles of long axes recurses past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v12, main_v13, main_v14, main_v15]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v17]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)
theorem W5_main_arg15 (c : Dev nD) : W5 m ρ c (Proc.devRef .tc main_arg15) = m ((c : Thread nD τ).loc main_arg15) :=
  W5_args m ρ c main_arg15 (by decide)
theorem W5_main_arg16 (c : Dev nD) : W5 m ρ c (Proc.devRef .tc main_arg16) = m ((c : Thread nD τ).loc main_arg16) :=
  W5_args m ρ c main_arg16 (by decide)
theorem W5_main_arg17 (c : Dev nD) : W5 m ρ c (Proc.devRef .tc main_arg17) = m ((c : Thread nD τ).loc main_arg17) :=
  W5_args m ρ c main_arg17 (by decide)
theorem W5_main_arg18 (c : Dev nD) : W5 m ρ c (Proc.devRef .tc main_arg18) = m ((c : Thread nD τ).loc main_arg18) :=
  W5_args m ρ c main_arg18 (by decide)
theorem W5_main_arg19 (c : Dev nD) : W5 m ρ c (Proc.devRef .tc main_arg19) = m ((c : Thread nD τ).loc main_arg19) :=
  W5_args m ρ c main_arg19 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin (V3 m ρ) c
    unfold Pipeline.ΦA at h
    iintro ⟨Hp, -, Hr⟩
    iapply h
    isplitl [Hr]; · iexact Hr
    iexact Hp
  hout c := by
    have h : (pdats m ρ 1 c).Φ (Fin.last _) ⊢ Pipeline.ΦA spec1 c := hout (V3 m ρ) c
    rw [Pipeline.ownSems0_none]; unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of @main: its result is the last boundary's contents of `main_v17`, the arguments end as launched, every semaphore counter ends at zero. -/
theorem run : θ_run defs (onTc (τ := τ) (main (F := F))) ⟨m, fun _ => 0, ρ⟩ (fun r => (∀ c : Dev nD,
      r.2.mem ((c.tc : Thread nD τ).loc main_v17) = W5 m ρ c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v17 (by decide))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c)⟩), funext fun g => hz g (.inr (no_unscoped g.2))⟩)

/-- The frame: the run without its result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_mono (run m ρ) fun _ h => ⟨fun c => (h.1 c).2, h.2⟩

end Cert.KernelIdeal.Hand

end

end
-- ==== Proof.Value.Kit.lean ====
module
public import Idealize.ShloMosaic.Lib.Pointwise
/-! The operations of the extended reals at coerced real numbers. -/
@[expose] public section
noncomputable section
namespace Cert.Pool
open Idealize.ShloMosaic

/-- The `1e-5` of the row statistics, as its bits denote it. -/
def eLn : ℝ := 10995116 / 2 ^ 40
/-- The `1e-9` of the softmax's denominator and of the floor. -/
def eSm : ℝ := 9007199 / 2 ^ 53

theorem eLn_pos : 0 < eLn := by unfold eLn; norm_num
theorem eSm_pos : 0 < eSm := by unfold eSm; norm_num

theorem lit_eLn : Ideal.ofBits FTy.f32 0x3727C5AC#32 = ((eLn : ℝ) : EReal) := by
  unfold eLn; simp [Ideal.ofBits, Ideal.ieee, -EReal.coe_mul]; norm_num
theorem lit_eSm : Ideal.ofBits FTy.f32 0x3089705F#32 = ((eSm : ℝ) : EReal) := by
  unfold eSm; simp [Ideal.ofBits, Ideal.ieee, -EReal.coe_mul]; norm_num
theorem lit_1024 : Ideal.ofBits FTy.f32 0x44800000#32 = ((1024 : ℝ) : EReal) := by
  simp [Ideal.ofBits, Ideal.ieee, -EReal.coe_mul]; norm_num
theorem lit_inv1024 : Ideal.ofBits FTy.f32 0x3A800000#32 = ((1 / 1024 : ℝ) : EReal) := by
  simp [Ideal.ofBits, Ideal.ieee, -EReal.coe_mul]; norm_num
theorem lit_eighth : Ideal.ofBits FTy.f32 0x3E000000#32 = ((1 / 8 : ℝ) : EReal) := by
  simp [Ideal.ofBits, Ideal.ieee, -EReal.coe_mul]; norm_num
theorem lit_two : Ideal.ofBits FTy.f32 0x40000000#32 = ((2 : ℝ) : EReal) := by
  simp [Ideal.ofBits, Ideal.ieee, -EReal.coe_mul]; norm_num
theorem lit_64 : Ideal.ofBits FTy.f32 0x42800000#32 = ((64 : ℝ) : EReal) := by
  simp [Ideal.ofBits, Ideal.ieee, -EReal.coe_mul]; norm_num
theorem lit_one : Ideal.ofBits FTy.f32 0x3F800000#32 = ((1 : ℝ) : EReal) := by
  simp [Ideal.ofBits, Ideal.ieee, -EReal.coe_mul]; norm_num
theorem lit_zero : Ideal.ofBits FTy.f32 0x00000000#32 = ((0 : ℝ) : EReal) := by
  simp [Ideal.ofBits, Ideal.ieee, -EReal.coe_mul]
theorem lit_bot : Ideal.ofBits FTy.f32 0xFF800000#32 = (⊥ : EReal) := by
  simp [Ideal.ofBits, Ideal.ieee, -EReal.coe_mul]
theorem lit_top : Ideal.ofBits FTy.f32 0x7F800000#32 = (⊤ : EReal) := by
  simp [Ideal.ofBits, Ideal.ieee, -EReal.coe_mul]

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_mul' (a b : ℝ) : (a : EReal) * (b : EReal) = ((a * b : ℝ) : EReal) := (EReal.coe_mul a b).symm
theorem coe_add' (a b : ℝ) : (a : EReal) + (b : EReal) = ((a + b : ℝ) : EReal) := (EReal.coe_add a b).symm
theorem coe_sub' (a b : ℝ) : (a : EReal) - (b : EReal) = ((a - b : ℝ) : EReal) := (EReal.coe_sub a b).symm
theorem coe_neg' (a : ℝ) : -(a : EReal) = ((-a : ℝ) : EReal) := (EReal.coe_neg a).symm

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem div_1024 (a : ℝ) : Ideal.div (a : EReal) ((1024 : ℝ) : EReal) = ((a / 1024 : ℝ) : EReal) :=
  div_coe a 1024 (by norm_num)

/-- The reciprocal root of a variance and the `1e-5`. -/
def rsq (v : ℝ) : ℝ := (√(v + eLn))⁻¹

theorem rsqrt_coe (v : ℝ) (h : 0 ≤ v) : Ideal.rsqrt ((v + eLn : ℝ) : EReal) = ((rsq v : ℝ) : EReal) := by
  have h0 : 0 < v + eLn := by have := eLn_pos; linarith
  show (if v + eLn < 0 then (⊥ : EReal) else if v + eLn = 0 then ⊤ else (((√(v + eLn))⁻¹ : ℝ) : EReal)) = _
  rw [if_neg (not_lt.2 h0.le), if_neg h0.ne']; rfl

theorem exp_coe (r : ℝ) : Ideal.exp (r : EReal) = ((Real.exp r : ℝ) : EReal) := rfl
theorem exp_bot : Ideal.exp (⊥ : EReal) = ((0 : ℝ) : EReal) := rfl

theorem bot_sub_coe (r : ℝ) : (⊥ : EReal) - (r : EReal) = ⊥ := EReal.bot_sub _

theorem max_coe (a b : ℝ) : max (a : EReal) (b : EReal) = ((max a b : ℝ) : EReal) :=
  (EReal.coe_strictMono.monotone.map_max).symm
theorem min_coe (a b : ℝ) : min (a : EReal) (b : EReal) = ((min a b : ℝ) : EReal) :=
  (EReal.coe_strictMono.monotone.map_min).symm

/-- The largest of finitely many reals, also as the extended reals' fold from `⊥`. -/
theorem sup_coe {n : ℕ} (hn : 0 < n) (f : Fin n → ℝ) :
    ∃ M : ℝ, Finset.univ.sup (fun s => ((f s : ℝ) : EReal)) = (M : EReal) ∧ (∀ s, f s ≤ M) ∧ ∃ s, f s = M := by
  have : Nonempty (Fin n) := ⟨⟨0, hn⟩⟩
  obtain ⟨s, hs⟩ := exists_eq_ciSup_of_finite (f := f)
  refine ⟨f s, le_antisymm ?_ ?_, ?_, s, rfl⟩
  · refine Finset.sup_le fun i _ => ?_
    rw [hs]; exact_mod_cast le_ciSup (Set.finite_range f).bddAbove i
  · exact Finset.le_sup (f := fun s => ((f s : ℝ) : EReal)) (Finset.mem_univ s)
  · intro i; rw [hs]; exact le_ciSup (Set.finite_range f).bddAbove i

end Cert.Pool
-- ==== Proof.Value.Math.lean ====
module
public import proofs.«01_k».proof.Proof.Value.Kit
/-! The pooling over the real numbers: the reference's form, the kernel's folded form, and that they agree. -/
@[expose] public section
noncomputable section
namespace Cert.Pool
open Finset

/-- A row of the model's width. -/
abbrev Row := Fin 1024 → ℝ

def mean (f : Row) : ℝ := (∑ d, f d) / 1024
def ctr (f : Row) (d : Fin 1024) : ℝ := f d - mean f
def var (f : Row) : ℝ := mean fun d => ctr f d * ctr f d
/-- The layer norm of a row. -/
def ln (f g b : Row) (d : Fin 1024) : ℝ := ctr f d * rsq (var f) * g d + b d

theorem var_nonneg (f : Row) : 0 ≤ var f :=
  div_nonneg (sum_nonneg fun _ _ => mul_self_nonneg _) (by norm_num)

theorem rsqrt_var (f : Row) : Idealize.ShloMosaic.Ideal.rsqrt ((var f + eLn : ℝ) : EReal) = ((rsq (var f) : ℝ) : EReal) :=
  rsqrt_coe _ (var_nonneg f)

theorem var_eq (f : Row) : var f = mean (fun d => f d * f d) - mean f * mean f := by
  have h : ∑ d, (f d - mean f) * (f d - mean f) = ∑ d, f d * f d - 2 * mean f * ∑ d, f d + 1024 * (mean f * mean f) := by
    rw [mul_sum, ← sum_sub_distrib]
    have : (1024 : ℝ) * (mean f * mean f) = ∑ _d : Fin 1024, mean f * mean f := by simp
    rw [this, ← sum_add_distrib]
    exact sum_congr rfl fun d _ => by ring
  have hs : ∑ d, f d = 1024 * mean f := by unfold mean; ring
  unfold var ctr
  conv_lhs => unfold mean
  change (∑ d, (f d - mean f) * (f d - mean f)) / 1024 = _
  rw [h, hs]
  conv_rhs => rw [show mean (fun d => f d * f d) = (∑ d, f d * f d) / 1024 from rfl]
  ring

/-- What the first layer norm's output is, as a combination of rows. -/
theorem ln_eq (f g b : Row) (d : Fin 1024) :
    ln f g b d = rsq (var f) * (f d * g d) - rsq (var f) * mean f * g d + b d := by
  unfold ln ctr; ring

/-- The second mean from the folded sums. -/
theorem mu2_eq (f g b : Row) :
    rsq (var f) * (∑ d, f d * (g d / 1024) - (∑ d, f d * (1 / 1024)) * mean g) + mean b = mean (ln f g b) := by
  have h1 : ∑ d, f d * (g d / 1024) = mean fun d => f d * g d := by
    unfold mean; rw [sum_div]; exact sum_congr rfl fun d _ => by ring
  have h2 : ∑ d, f d * (1 / 1024) = mean f := by
    unfold mean; rw [sum_div]; exact sum_congr rfl fun d _ => by ring
  rw [h1, h2]
  have : ∑ d, ln f g b d = rsq (var f) * ∑ d, f d * g d - rsq (var f) * mean f * ∑ d, g d + ∑ d, b d := by
    rw [mul_sum, mul_sum, ← sum_sub_distrib, ← sum_add_distrib]
    exact sum_congr rfl fun d _ => ln_eq f g b d
  conv_rhs => unfold mean
  rw [this]; unfold mean; ring

/-- The first variance from the folded sums. -/
theorem var1_eq (f : Row) :
    ∑ d, f d * f d * (1 / 1024) - (∑ d, f d * (1 / 1024)) * (∑ d, f d * (1 / 1024)) = var f := by
  have h1 : ∑ d, f d * f d * (1 / 1024) = mean fun d => f d * f d := by
    unfold mean; rw [sum_div]; exact sum_congr rfl fun d _ => by ring
  have h2 : ∑ d, f d * (1 / 1024) = mean f := by
    unfold mean; rw [sum_div]; exact sum_congr rfl fun d _ => by ring
  rw [h1, h2, var_eq]

theorem mean_mul (f : Row) : ∑ d, f d * (1 / 1024) = mean f := by
  unfold mean; rw [sum_div]; exact sum_congr rfl fun d _ => by ring

/-- The second variance from the folded sums. -/
theorem var2_eq (f g b : Row) :
    (rsq (var f) * rsq (var f)) * (∑ d, f d * f d * (g d * g d / 1024) - 2 * mean f * (∑ d, f d * (g d * g d / 1024))
        + mean f * mean f * mean (fun d => g d * g d))
      + 2 * rsq (var f) * (∑ d, f d * (g d * b d / 1024) - mean f * mean (fun d => g d * b d))
      + mean (fun d => b d * b d) - mean (ln f g b) * mean (ln f g b) = var (ln f g b) := by
  have h1 : ∑ d, f d * f d * (g d * g d / 1024) = (∑ d, f d * f d * (g d * g d)) / 1024 := by
    rw [sum_div]; exact sum_congr rfl fun d _ => by ring
  have h2 : ∑ d, f d * (g d * g d / 1024) = (∑ d, f d * (g d * g d)) / 1024 := by
    rw [sum_div]; exact sum_congr rfl fun d _ => by ring
  have h3 : ∑ d, f d * (g d * b d / 1024) = (∑ d, f d * (g d * b d)) / 1024 := by
    rw [sum_div]; exact sum_congr rfl fun d _ => by ring
  have h4 : ∑ d, ln f g b d * ln f g b d
      = (rsq (var f) * rsq (var f)) * (∑ d, f d * f d * (g d * g d)) - (rsq (var f) * rsq (var f)) * (2 * mean f) * (∑ d, f d * (g d * g d))
        + (rsq (var f) * rsq (var f)) * (mean f * mean f) * (∑ d, g d * g d)
        + 2 * rsq (var f) * (∑ d, f d * (g d * b d)) - 2 * rsq (var f) * mean f * (∑ d, g d * b d) + ∑ d, b d * b d := by
    rw [mul_sum, mul_sum, mul_sum, mul_sum, mul_sum, ← sum_sub_distrib, ← sum_add_distrib, ← sum_add_distrib,
      ← sum_sub_distrib, ← sum_add_distrib]
    exact sum_congr rfl fun d _ => by rw [ln_eq]; ring
  rw [var_eq (ln f g b), h1, h2, h3]
  conv_rhs => rw [show mean (fun d => ln f g b d * ln f g b d) = (∑ d, ln f g b d * ln f g b d) / 1024 from rfl, h4]
  rw [show mean (fun d => g d * g d) = (∑ d, g d * g d) / 1024 from rfl,
    show mean (fun d => g d * b d) = (∑ d, g d * b d) / 1024 from rfl,
    show mean (fun d => b d * b d) = (∑ d, b d * b d) / 1024 from rfl]
  ring

/-- The factors of the second layer norm that depend on the row of `x` alone. -/
def r1 (f : Row) : ℝ := rsq (var f)
def mu2 (f g b : Row) : ℝ := mean (ln f g b)
def r2 (f g b : Row) : ℝ := rsq (var (ln f g b))
def aa (f g b : Row) : ℝ := r1 f * r2 f g b

/-- A weighted sum of the second layer norm's output, with the factors drawn out. -/
theorem lin (f g b wg wb w : Row) :
    ∑ d, ln (ln f g b) wg wb d * w d
      = aa f g b * ∑ d, f d * (w d * wg d * g d) - aa f g b * mean f * ∑ d, g d * (w d * wg d)
        + r2 f g b * ∑ d, b d * (w d * wg d) - r2 f g b * mu2 f g b * ∑ d, w d * wg d + ∑ d, wb d * w d := by
  rw [mul_sum, mul_sum, mul_sum, mul_sum, ← sum_sub_distrib, ← sum_add_distrib, ← sum_sub_distrib, ← sum_add_distrib]
  refine sum_congr rfl fun d _ => ?_
  show (ctr (ln f g b) d * rsq (var (ln f g b)) * wg d + wb d) * w d = _
  rw [show ctr (ln f g b) d = ln f g b d - mu2 f g b from rfl, ln_eq]
  unfold aa r1 r2; ring

/-- The layer norm of a row before its shift. -/
def lz (f g : Row) (d : Fin 1024) : ℝ := ctr f d * rsq (var f) * g d

theorem lin_lz (f g b wg w : Row) :
    ∑ d, lz (ln f g b) wg d * w d
      = aa f g b * ∑ d, f d * (w d * wg d * g d) - aa f g b * mean f * ∑ d, g d * (w d * wg d)
        + r2 f g b * ∑ d, b d * (w d * wg d) - r2 f g b * mu2 f g b * ∑ d, w d * wg d := by
  have h := lin f g b wg (fun _ => 0) w
  simp only [zero_mul, sum_const_zero, add_zero] at h
  rw [← h]
  exact sum_congr rfl fun d _ => by unfold lz ln; rw [add_zero]

/-- The finite arguments that shape the weights and the values, the normalized query `z`, and what the key's shift and bias
add to the score of each head. -/
structure Par where
  g : Row
  b : Row
  qg : Row
  qb : Row
  kg : Row
  vg : Row
  bq : Row
  z : Row
  bias : ℕ → ℝ
  Wq : Fin 1024 → Row
  Wk : Fin 1024 → Row
  Wv : Fin 1024 → Row

/-- Whether column `j` belongs to head `h`. -/
def oh (h : ℕ) (j : Fin 1024) : ℝ := if j.val / 64 = h then 1 else 0

/-- Column `e` of head `h`. -/
def col (h : Fin 16) (e : Fin 64) : Fin 1024 := ⟨h.val * 64 + e.val, by have := h.isLt; have := e.isLt; omega⟩
/-- The head of a column. -/
def hd (j : Fin 1024) : Fin 16 := ⟨j.val / 64, by have := j.isLt; omega⟩

theorem sum_oh (h : Fin 16) (f : Fin 1024 → ℝ) : ∑ j, oh h.val j * f j = ∑ e : Fin 64, f (col h e) := by
  have e1 : ∑ j, oh h.val j * f j = ∑ p : Fin 16 × Fin 64, oh h.val (col p.1 p.2) * f (col p.1 p.2) := by
    refine (Fintype.sum_equiv (⟨fun p => col p.1 p.2, fun j => (hd j, ⟨j.val % 64, Nat.mod_lt _ (by norm_num)⟩), ?_, ?_⟩ :
      Fin 16 × Fin 64 ≃ Fin 1024) _ _ fun p => rfl).symm
    · rintro ⟨p, e⟩
      have := e.isLt
      refine Prod.ext (Fin.ext ?_) (Fin.ext ?_)
      · show (p.val * 64 + e.val) / 64 = p.val; omega
      · show (p.val * 64 + e.val) % 64 = e.val; omega
    · intro j; refine Fin.ext ?_
      show j.val / 64 * 64 + j.val % 64 = j.val; omega
  rw [e1, Fintype.sum_prod_type]
  rw [Finset.sum_eq_single h]
  · refine sum_congr rfl fun e _ => ?_
    have := e.isLt
    rw [show oh h.val (col h e) = 1 from if_pos (by show (h.val * 64 + e.val) / 64 = h.val; omega), one_mul]
  · intro k _ hk
    refine sum_eq_zero fun e _ => ?_
    have := e.isLt
    rw [show oh h.val (col k e) = 0 from if_neg (by
      show ¬ (k.val * 64 + e.val) / 64 = h.val
      intro c; exact hk (Fin.ext (by omega))), zero_mul]
  · intro c; exact absurd (mem_univ _) c

theorem sum_oh_head (j : Fin 1024) (f : Fin 16 → ℝ) : ∑ h : Fin 16, f h * oh h.val j = f (hd j) := by
  rw [Finset.sum_eq_single (hd j)]
  · rw [show oh (hd j).val j = 1 from if_pos rfl, mul_one]
  · intro h _ hh
    rw [show oh h.val j = 0 from if_neg (fun c => hh (Fin.ext c.symm)), mul_zero]
  · intro c; exact absurd (mem_univ _) c

namespace Par
variable (P : Par)

/-- The reference's query, and its key and value without their shifts and biases. -/
def Q (j : Fin 1024) : ℝ := ∑ d, (P.z d * P.qg d + P.qb d) * P.Wq j d + P.bq j
def K (f : Row) (j : Fin 1024) : ℝ := ∑ d, lz (ln f P.g P.b) P.kg d * P.Wk j d
def V (f : Row) (j : Fin 1024) : ℝ := ∑ d, lz (ln f P.g P.b) P.vg d * P.Wv j d
def score0 (f : Row) (h : Fin 16) : ℝ := ∑ e : Fin 64, P.Q (col h e) * (1 / 8) * P.K f (col h e)
def score (f : Row) (h : Fin 16) : ℝ := P.score0 f h + P.bias h.val

/-- The kernel's folded key side. -/
def qs (j : Fin 1024) : ℝ := P.Q j * (1 / 8)
def wsT (h : ℕ) (d : Fin 1024) : ℝ := ∑ j, oh h j * P.qs j * P.Wk j d
def wsTk (h : ℕ) (d : Fin 1024) : ℝ := P.wsT h d * P.kg d
def cb (h : ℕ) : ℝ := ∑ d, P.b d * P.wsTk h d
def c1 (h : ℕ) : ℝ := ∑ d, P.wsTk h d
def cg (h : ℕ) : ℝ := ∑ d, P.g d * P.wsTk h d

/-- The kernel's score. -/
def kscore (f : Row) (h : ℕ) : ℝ :=
  aa f P.g P.b * (∑ d, f d * (P.wsTk h d * P.g d))
    + (r2 f P.g P.b * P.cb h + r2 f P.g P.b * mu2 f P.g P.b * (0 - P.c1 h) + aa f P.g P.b * mean f * (0 - P.cg h)) + P.bias h

theorem kscore_eq (f : Row) (h : Fin 16) : P.kscore f h.val = P.score f h := by
  have e1 : P.score0 f h = ∑ j, oh h.val j * (P.qs j * P.K f j) := by
    rw [sum_oh]; rfl
  have e2 : ∑ j, oh h.val j * (P.qs j * P.K f j) = ∑ d, lz (ln f P.g P.b) P.kg d * P.wsT h.val d := by
    have : ∑ d, lz (ln f P.g P.b) P.kg d * P.wsT h.val d
        = ∑ j, ∑ d, oh h.val j * P.qs j * (lz (ln f P.g P.b) P.kg d * P.Wk j d) := by
      rw [sum_comm]; refine sum_congr rfl fun d _ => ?_
      unfold wsT; rw [mul_sum]; exact sum_congr rfl fun j _ => by ring
    rw [this]
    refine sum_congr rfl fun j _ => ?_
    rw [← mul_sum]; unfold K; ring
  unfold score
  rw [e1, e2, lin_lz]
  unfold kscore cb c1 cg
  simp only [wsTk]
  ring

/-- The values' folded rows. -/
def wvg (j d : Fin 1024) : ℝ := P.Wv j d * P.vg d
def vr1 (j : Fin 1024) : ℝ := ∑ d, P.b d * P.wvg j d
def vr2 (j : Fin 1024) : ℝ := ∑ d, P.wvg j d
def vr3 (j : Fin 1024) : ℝ := ∑ d, P.g d * P.wvg j d

theorem V_eq (f : Row) (j : Fin 1024) :
    P.V f j = aa f P.g P.b * ∑ d, f d * (P.wvg j d * P.g d) - aa f P.g P.b * mean f * P.vr3 j
      + r2 f P.g P.b * P.vr1 j - r2 f P.g P.b * mu2 f P.g P.b * P.vr2 j := by
  unfold V; rw [lin_lz]; rfl

/-- The kernel's pooled value before the output projection, from unnormalized weights `p` and a factor `i`. -/
theorem merged_eq {n : ℕ} (X : Fin n → Row) (p : Fin n → ℝ) (i : ℝ) (j : Fin 1024) :
    ∑ d, (∑ s, X s d * (p s * aa (X s) P.g P.b)) * i * (P.wvg j d * P.g d)
        + (∑ s, r2 (X s) P.g P.b * p s) * i * P.vr1 j
        - (∑ s, r2 (X s) P.g P.b * mu2 (X s) P.g P.b * p s) * i * P.vr2 j
        - (∑ s, aa (X s) P.g P.b * mean (X s) * p s) * i * P.vr3 j
      = ∑ s, p s * i * P.V (X s) j := by
  have e : ∑ d, (∑ s, X s d * (p s * aa (X s) P.g P.b)) * i * (P.wvg j d * P.g d)
      = ∑ s, p s * i * (aa (X s) P.g P.b * ∑ d, X s d * (P.wvg j d * P.g d)) := by
    simp only [sum_mul, mul_sum]
    rw [sum_comm]
    exact sum_congr rfl fun s _ => sum_congr rfl fun d _ => by ring
  rw [e]
  simp only [sum_mul]
  rw [← sum_add_distrib, ← sum_sub_distrib, ← sum_sub_distrib]
  refine sum_congr rfl fun s _ => ?_
  rw [V_eq]; ring

end Par

/-! ### The softmax in two halves -/

theorem sum_halves (f : Fin 8192 → ℝ) :
    ∑ s, f s = ∑ r : Fin 4096, f ⟨r.val, by have := r.isLt; omega⟩ + ∑ r : Fin 4096, f ⟨4096 + r.val, by have := r.isLt; omega⟩ :=
  Fin.sum_univ_add (a := 4096) (b := 4096) f

/-- Rescaling the first half's weighted sum to the maximum of both. -/
theorem rescale {n : ℕ} (w S : Fin n → ℝ) (m m' : ℝ) :
    (∑ s, w s * Real.exp (S s - m)) * Real.exp (m - m') = ∑ s, w s * Real.exp (S s - m') := by
  rw [sum_mul]
  refine sum_congr rfl fun s _ => ?_
  rw [mul_assoc, ← Real.exp_add]; congr 2; ring

/-- A weight of the softmax is at most one. -/
theorem weight_le_one {n : ℕ} (S : Fin n → ℝ) (M : ℝ) (s : Fin n) :
    Real.exp (S s - M) / (∑ t, Real.exp (S t - M) + eSm) ≤ 1 := by
  have h0 : 0 ≤ ∑ t, Real.exp (S t - M) := sum_nonneg fun _ _ => (Real.exp_pos _).le
  have h1 : Real.exp (S s - M) ≤ ∑ t, Real.exp (S t - M) :=
    single_le_sum (f := fun t => Real.exp (S t - M)) (fun _ _ => (Real.exp_pos _).le) (mem_univ s)
  rw [div_le_one (by have := eSm_pos; linarith)]
  have := eSm_pos; linarith

/-- The largest value of a row of scores. -/
def mx {n : ℕ} (f : Fin n → ℝ) : ℝ := (Finset.univ.sup fun s => ((f s : ℝ) : EReal)).toReal

theorem sup_eq_mx {n : ℕ} (hn : 0 < n) (f : Fin n → ℝ) : Finset.univ.sup (fun s => ((f s : ℝ) : EReal)) = ((mx f : ℝ) : EReal) := by
  obtain ⟨M, hM, -⟩ := sup_coe hn f
  unfold mx; rw [hM]; rfl

theorem fold_max_eq_mx {n : ℕ} (hn : 0 < n) (f : Fin n → ℝ) :
    (Finset.univ : Finset (Fin n)).fold max (⊥ : EReal) (fun s => ((f s : ℝ) : EReal)) = ((mx f : ℝ) : EReal) :=
  sup_eq_mx hn f

theorem mx_halves (f : Fin 8192 → ℝ) :
    max (mx fun r : Fin 4096 => f ⟨r.val, by have := r.isLt; omega⟩) (mx fun r : Fin 4096 => f ⟨4096 + r.val, by have := r.isLt; omega⟩)
      = mx f := by
  obtain ⟨M, hM, hle, s, hs⟩ := sup_coe (by norm_num : 0 < 8192) f
  obtain ⟨A, hA, hleA, a, ha⟩ := sup_coe (by norm_num : 0 < 4096) fun r : Fin 4096 => f ⟨r.val, by have := r.isLt; omega⟩
  obtain ⟨B, hB, hleB, b, hb⟩ := sup_coe (by norm_num : 0 < 4096) fun r : Fin 4096 => f ⟨4096 + r.val, by have := r.isLt; omega⟩
  have e1 : mx f = M := by unfold mx; rw [hM]; rfl
  have e2 : (mx fun r : Fin 4096 => f ⟨r.val, by have := r.isLt; omega⟩) = A := by unfold mx; rw [hA]; rfl
  have e3 : (mx fun r : Fin 4096 => f ⟨4096 + r.val, by have := r.isLt; omega⟩) = B := by unfold mx; rw [hB]; rfl
  rw [e1, e2, e3]
  refine le_antisymm (max_le (ha ▸ hle _) (hb ▸ hle _)) ?_
  rw [← hs]
  by_cases h : s.val < 4096
  · exact le_max_of_le_left (hleA ⟨s.val, h⟩)
  · have h2 := s.isLt
    have hb := hleB ⟨s.val - 4096, by omega⟩
    have e : (⟨4096 + (s.val - 4096), by omega⟩ : Fin 8192) = s := Fin.ext (by simp only []; omega)
    exact le_max_of_le_right ((congrArg f e).symm.le.trans hb)

/-- The unnormalized and the normalized weight of row `s` in head `h`. -/
def Par.ew (P : Par) (X : Fin 8192 → Row) (h : Fin 16) (s : Fin 8192) : ℝ :=
  Real.exp (P.score (X s) h - mx fun t => P.score (X t) h)
def Par.wt (P : Par) (X : Fin 8192 → Row) (h : Fin 16) (s : Fin 8192) : ℝ :=
  P.ew X h s / (∑ t, P.ew X h t + eSm)
/-- The pooled value without the value's shift and bias. -/
def Par.pooled (P : Par) (X : Fin 8192 → Row) (j : Fin 1024) : ℝ := ∑ s, P.V (X s) j * P.wt X (hd j) s

/-- The sum of the weights. -/
def Par.tot (P : Par) (X : Fin 8192 → Row) (h : Fin 16) : ℝ := ∑ s, P.wt X h s
/-- The pooled value, when the value's shift and bias add `w` to every row. -/
def Par.pooledE (P : Par) (X : Fin 8192 → Row) (w : Fin 1024 → EReal) (j : Fin 1024) : EReal :=
  ((P.pooled X j : ℝ) : EReal) + ((P.tot X (hd j) : ℝ) : EReal) * w j

theorem Par.wt_nonneg (P : Par) (X : Fin 8192 → Row) (h : Fin 16) (s : Fin 8192) : 0 ≤ P.wt X h s :=
  div_nonneg (Real.exp_pos _).le (add_nonneg (sum_nonneg fun _ _ => (Real.exp_pos _).le) eSm_pos.le)

theorem Par.wt_le_one (P : Par) (X : Fin 8192 → Row) (h : Fin 16) (s : Fin 8192) : P.wt X h s ≤ 1 :=
  weight_le_one (fun t => P.score (X t) h) _ s

theorem Par.den_ne (P : Par) (X : Fin 8192 → Row) (h : Fin 16) : ∑ t, P.ew X h t + eSm ≠ 0 := by
  have h0 : 0 ≤ ∑ t, P.ew X h t := sum_nonneg fun _ _ => (Real.exp_pos _).le
  have := eSm_pos
  exact (by linarith : 0 < ∑ t, P.ew X h t + eSm).ne'

/-! ### The output projection and its layer norm, over the extended reals -/

def projE (m : Fin 1024 → EReal) (Wo : Fin 1024 → Fin 1024 → EReal) (bo : Fin 1024 → EReal) (j : Fin 1024) : EReal :=
  ∑ k, m k * Wo j k + bo j
def meanE (o : Fin 1024 → EReal) : EReal := Idealize.ShloMosaic.Ideal.div (∑ k, o k) ((1024 : ℝ) : EReal)
def lnE (o g b : Fin 1024 → EReal) (j : Fin 1024) : EReal :=
  (o j - meanE o) * Idealize.ShloMosaic.Ideal.rsqrt (meanE (fun k => (o k - meanE o) * (o k - meanE o)) + ((eLn : ℝ) : EReal)) * g j + b j

/-! ### Arguments that may be infinite -/

open Idealize.ShloMosaic (Ideal.div Ideal.rsqrt)

/-- A row less its mean, over its deviation. -/
def nrmE (o : Fin 1024 → EReal) (j : Fin 1024) : EReal :=
  (o j - meanE o) * Idealize.ShloMosaic.Ideal.rsqrt (meanE (fun k => (o k - meanE o) * (o k - meanE o)) + ((eLn : ℝ) : EReal))

theorem sum_bot {ι : Type*} [Fintype ι] [DecidableEq ι] (f : ι → EReal) (j : ι) (h : f j = ⊥) : ∑ k, f k = ⊥ := by
  rw [Fintype.sum_eq_add_sum_compl j f, h, EReal.bot_add]

theorem sum_ne_bot {ι : Type*} (s : Finset ι) (f : ι → EReal) (h : ∀ k, f k ≠ ⊥) : ∑ k ∈ s, f k ≠ ⊥ := by
  classical
  induction s using Finset.induction_on with
  | empty => simp
  | insert a s ha ih => rw [sum_insert ha]; intro c; rcases EReal.add_eq_bot_iff.1 c with c | c; exacts [h _ c, ih c]

theorem sum_top {ι : Type*} [Fintype ι] [DecidableEq ι] (f : ι → EReal) (j : ι) (h : f j = ⊤) (h' : ∀ k, f k ≠ ⊥) : ∑ k, f k = ⊤ := by
  rw [Fintype.sum_eq_add_sum_compl j f, h, EReal.top_add_of_ne_bot (sum_ne_bot _ f h')]

theorem real_of_ne {x : EReal} (h : x ≠ ⊥) (h' : x ≠ ⊤) : ∃ r : ℝ, x = (r : EReal) := ⟨x.toReal, (EReal.coe_toReal h' h).symm⟩

/-- A term of a finite sum is finite. -/
theorem term_real {ι : Type*} [Fintype ι] (f : ι → EReal) (r : ℝ) (h : ∑ k, f k = (r : EReal)) (j : ι) : ∃ a : ℝ, f j = (a : EReal) := by
  classical
  have hb : ∀ k, f k ≠ ⊥ := fun k c => EReal.coe_ne_bot r (h.symm.trans (sum_bot f k c))
  exact real_of_ne (hb j) fun c => EReal.coe_ne_top r (h.symm.trans (sum_top f j c hb))

theorem add_real {a b : EReal} {r : ℝ} (h : a + b = (r : EReal)) : (∃ x : ℝ, a = (x : EReal)) ∧ ∃ y : ℝ, b = (y : EReal) := by
  have h' : ∑ k : Fin 2, ![a, b] k = (r : EReal) := by rw [Fin.sum_univ_two]; exact h
  exact ⟨term_real _ r h' 0, term_real _ r h' 1⟩

theorem div_inf : Idealize.ShloMosaic.Ideal.div ⊥ ((1024 : ℝ) : EReal) = ⊥ ∧ Idealize.ShloMosaic.Ideal.div ⊤ ((1024 : ℝ) : EReal) = ⊤ := by
  have h : ((1024 : ℝ) : EReal) ≠ 0 := by exact_mod_cast (by norm_num : (1024 : ℝ) ≠ 0)
  unfold Idealize.ShloMosaic.Ideal.div
  rw [if_neg h, if_neg h, ← EReal.coe_inv]
  exact ⟨EReal.bot_mul_coe_of_pos (by norm_num), EReal.top_mul_coe_of_pos (by norm_num)⟩

theorem rsqrt_top : Idealize.ShloMosaic.Ideal.rsqrt ⊤ = 0 := rfl

/-- Any row normalizes to a finite one: a row with an infinite entry to zero. -/
theorem nrmE_real (o : Fin 1024 → EReal) : ∃ z : Row, ∀ j, nrmE o j = ((z j : ℝ) : EReal) := by
  classical
  by_cases hr : ∀ j, ∃ r : ℝ, o j = (r : EReal)
  · choose f hf using hr
    have e : o = fun j => ((f j : ℝ) : EReal) := funext hf
    refine ⟨fun j => ctr f j * rsq (var f), fun j => ?_⟩
    have hm : meanE o = ((mean f : ℝ) : EReal) := by
      rw [e]; unfold meanE; rw [coe_sum, div_1024]; rfl
    have hv : meanE (fun k => (o k - meanE o) * (o k - meanE o)) = ((var f : ℝ) : EReal) := by
      rw [hm, e]; unfold meanE; simp only [coe_sub', coe_mul', coe_sum, div_1024]; rfl
    unfold nrmE
    rw [hv, hm, coe_add', rsqrt_var, hf, coe_sub', coe_mul']; rfl
  · obtain ⟨j0, hj⟩ := not_forall.1 hr
    have hm : meanE o = ⊥ ∨ meanE o = ⊤ := by
      by_cases hb : ∃ k, o k = ⊥
      · obtain ⟨k, hk⟩ := hb
        left; unfold meanE; rw [sum_bot o k hk]; exact div_inf.1
      · have hb' : ∀ k, o k ≠ ⊥ := not_exists.1 hb
        right; unfold meanE
        rw [sum_top o j0 (by by_contra c; exact hj (real_of_ne (hb' j0) c)) hb']; exact div_inf.2
    have hs : ∀ k, (o k - meanE o) * (o k - meanE o) = ⊤ := by
      intro k
      have : o k - meanE o = ⊤ ∨ o k - meanE o = ⊥ := by
        rcases hm with h | h
        · rw [h]
          by_cases c : o k = ⊥
          · right; rw [c]; rfl
          · left; rw [sub_eq_add_neg, EReal.neg_bot, EReal.add_top_of_ne_bot c]
        · right; rw [h, sub_eq_add_neg, EReal.neg_top, EReal.add_bot]
      rcases this with h | h <;> rw [h] <;> rfl
    refine ⟨fun _ => 0, fun j => ?_⟩
    unfold nrmE
    have hv : meanE (fun k => (o k - meanE o) * (o k - meanE o)) = ⊤ := by
      simp only [hs]; unfold meanE
      rw [sum_top (fun _ : Fin 1024 => (⊤ : EReal)) 0 rfl (fun _ => by simp)]; exact div_inf.2
    rw [hv, EReal.top_add_coe, rsqrt_top, mul_zero]; rfl

/-- What a shift `b` before a projection `W` with bias `c` adds to its result. -/
def shE (b : Fin 1024 → EReal) (W : Fin 1024 → Row) (c : Fin 1024 → EReal) (j : Fin 1024) : EReal :=
  ∑ d, b d * ((W j d : ℝ) : EReal) + c j

theorem add_mul_coe (a w : ℝ) (e : EReal) : ((a : EReal) + e) * (w : EReal) = ((a * w : ℝ) : EReal) + e * (w : EReal) := by
  induction e with
  | coe x => rw [coe_add', coe_mul', coe_mul', coe_add', add_mul]
  | top =>
    rw [EReal.coe_add_top]
    rcases lt_trichotomy w 0 with h | h | h
    · rw [EReal.top_mul_coe_of_neg h, EReal.add_bot]
    · subst h; simp
    · rw [EReal.top_mul_coe_of_pos h, EReal.coe_add_top]
  | bot =>
    rw [EReal.add_bot]
    rcases lt_trichotomy w 0 with h | h | h
    · rw [EReal.bot_mul_coe_of_neg h, EReal.coe_add_top]
    · subst h; simp
    · rw [EReal.bot_mul_coe_of_pos h, EReal.add_bot]

theorem shift_sum {ι : Type*} (t : Finset ι) (a w : ι → ℝ) (b : ι → EReal) :
    ∑ d ∈ t, (((a d : ℝ) : EReal) + b d) * ((w d : ℝ) : EReal) = ((∑ d ∈ t, a d * w d : ℝ) : EReal) + ∑ d ∈ t, b d * ((w d : ℝ) : EReal) := by
  rw [← coe_sum, ← sum_add_distrib]
  exact sum_congr rfl fun d _ => add_mul_coe _ _ _

/-- A projection of a shifted row, with its bias. -/
theorem shift_proj (a : Row) (b : Fin 1024 → EReal) (W : Fin 1024 → Row) (c : Fin 1024 → EReal) (j : Fin 1024) :
    ∑ d, (((a d : ℝ) : EReal) + b d) * ((W j d : ℝ) : EReal) + c j = ((∑ d, a d * W j d : ℝ) : EReal) + shE b W c j := by
  rw [shift_sum, add_assoc]; rfl

theorem fold_max_const {n : ℕ} (hn : 0 < n) (w : EReal) : (Finset.univ : Finset (Fin n)).fold max (⊥ : EReal) (fun _ => w) = w :=
  Finset.sup_const ⟨⟨0, hn⟩, mem_univ _⟩ w

theorem sum_mul_const {ι : Type*} (t : Finset ι) (p : ι → ℝ) (hp : ∀ i, 0 ≤ p i) (w : EReal) :
    ∑ i ∈ t, w * ((p i : ℝ) : EReal) = ((∑ i ∈ t, p i : ℝ) : EReal) * w := by
  classical
  induction t using Finset.induction_on with
  | empty => simp
  | insert a t h ih =>
    have h1 : (0 : EReal) ≤ ((p a : ℝ) : EReal) := by exact_mod_cast hp a
    have h2 : (0 : EReal) ≤ ((∑ i ∈ t, p i : ℝ) : EReal) := by exact_mod_cast sum_nonneg fun i _ => hp i
    rw [sum_insert h, sum_insert h, ih, EReal.coe_add, EReal.right_distrib_of_nonneg h1 h2, mul_comm w]

/-- What the key's shift and bias add to every score of a head. -/
def Par.shS (P : Par) (kb bk : Fin 1024 → EReal) (h : Fin 16) : EReal :=
  ∑ e : Fin 64, ((P.qs (col h e) : ℝ) : EReal) * shE kb P.Wk bk (col h e)

theorem Par.score_shift (P : Par) (f : Row) (kb bk : Fin 1024 → EReal) (h : Fin 16) :
    ∑ e : Fin 64, ((P.qs (col h e) : ℝ) : EReal) * (((P.K f (col h e) : ℝ) : EReal) + shE kb P.Wk bk (col h e))
      = ((P.score0 f h : ℝ) : EReal) + P.shS kb bk h := by
  have e : ∀ e : Fin 64, ((P.qs (col h e) : ℝ) : EReal) * (((P.K f (col h e) : ℝ) : EReal) + shE kb P.Wk bk (col h e))
      = (((P.K f (col h e) : ℝ) : EReal) + shE kb P.Wk bk (col h e)) * ((P.qs (col h e) : ℝ) : EReal) := fun e => mul_comm _ _
  simp only [e]
  rw [shift_sum]
  unfold Par.shS Par.score0
  refine congr (congrArg _ (congrArg _ (sum_congr rfl fun e _ => ?_))) (sum_congr rfl fun e _ => mul_comm _ _)
  unfold Par.qs; ring

theorem mul_zero_or {q : ℝ} {u : EReal} {r : ℝ} (h : (q : EReal) * u = (r : EReal)) : q = 0 ∨ ∃ x : ℝ, u = (x : EReal) := by
  rcases eq_or_ne q 0 with h0 | h0
  · exact Or.inl h0
  · right
    refine real_of_ne ?_ ?_ <;> rintro rfl
    · rcases lt_or_gt_of_ne h0 with c | c
      · rw [EReal.coe_mul_bot_of_neg c] at h; exact absurd h.symm (EReal.coe_ne_top r)
      · rw [EReal.coe_mul_bot_of_pos c] at h; exact absurd h.symm (EReal.coe_ne_bot r)
    · rcases lt_or_gt_of_ne h0 with c | c
      · rw [EReal.coe_mul_top_of_neg c] at h; exact absurd h.symm (EReal.coe_ne_bot r)
      · rw [EReal.coe_mul_top_of_pos c] at h; exact absurd h.symm (EReal.coe_ne_top r)

theorem col_hd (j : Fin 1024) : col (hd j) ⟨j.val % 64, Nat.mod_lt _ (by norm_num)⟩ = j :=
  Fin.ext (by show j.val / 64 * 64 + j.val % 64 = j.val; omega)

/-- The kernel's folded bias is what the key's shift and bias add to a score, if that is finite. -/
theorem Par.bias_eq (P : Par) (kb bk : Fin 1024 → EReal) (h : Fin 16) (r : ℝ) (hr : P.shS kb bk h = (r : EReal)) :
    ∑ j, ((P.qs j : ℝ) : EReal) * bk j * ((oh h.val j : ℝ) : EReal) + ∑ d, kb d * ((P.wsT h.val d : ℝ) : EReal) = (r : EReal) := by
  have key : ∀ e : Fin 64, P.qs (col h e) = 0 ∨
      ((∃ x : ℝ, bk (col h e) = (x : EReal)) ∧ ∀ d, P.Wk (col h e) d = 0 ∨ ∃ x : ℝ, kb d = (x : EReal)) := by
    intro e
    obtain ⟨t, ht⟩ := term_real _ r hr e
    rcases mul_zero_or ht with c | ⟨x, hx⟩
    · exact Or.inl c
    · right
      obtain ⟨⟨y, hy⟩, hb⟩ := add_real hx
      refine ⟨hb, fun d => ?_⟩
      obtain ⟨w, hw⟩ := term_real _ y hy d
      exact mul_zero_or ((mul_comm _ _).trans hw)
  have keyj : ∀ j, oh h.val j * P.qs j = 0 ∨ ((∃ x : ℝ, bk j = (x : EReal)) ∧ ∀ d, P.Wk j d = 0 ∨ ∃ x : ℝ, kb d = (x : EReal)) := by
    intro j
    by_cases c : j.val / 64 = h.val
    · have hh : hd j = h := Fin.ext c
      have := key ⟨j.val % 64, Nat.mod_lt _ (by norm_num)⟩
      rw [← hh, col_hd] at this
      exact this.imp_left fun t => by rw [t, mul_zero]
    · left; unfold oh; rw [if_neg c, zero_mul]
  have toR : ∀ {u : EReal}, (∃ x : ℝ, u = (x : EReal)) → u = ((u.toReal : ℝ) : EReal) := fun ⟨x, hx⟩ => by rw [hx]; rfl
  have kbW : ∀ j d, oh h.val j * P.qs j ≠ 0 → kb d * ((P.Wk j d : ℝ) : EReal) = (((kb d).toReal * P.Wk j d : ℝ) : EReal) := by
    intro j d hj
    rcases ((keyj j).resolve_left hj).2 d with c | c
    · rw [c, mul_zero]; simp
    · rw [toR c, coe_mul']; rfl
  -- the sum's terms
  have t1 : ∀ e : Fin 64, ((P.qs (col h e) : ℝ) : EReal) * shE kb P.Wk bk (col h e)
      = ((P.qs (col h e) * (∑ d, (kb d).toReal * P.Wk (col h e) d + (bk (col h e)).toReal) : ℝ) : EReal) := by
    intro e
    by_cases c : P.qs (col h e) = 0
    · rw [c, zero_mul]; simp
    · have ho : oh h.val (col h e) = 1 := if_pos (by have := e.isLt; show (h.val * 64 + e.val) / 64 = h.val; omega)
      have hj : oh h.val (col h e) * P.qs (col h e) ≠ 0 := by rw [ho, one_mul]; exact c
      unfold shE
      simp only [kbW _ _ hj]
      rw [toR ((keyj (col h e)).resolve_left hj).1, coe_sum, coe_add', coe_mul']; rfl
  have e1 : r = ∑ j, oh h.val j * (P.qs j * (∑ d, (kb d).toReal * P.Wk j d + (bk j).toReal)) := by
    rw [sum_oh]
    have := hr; unfold Par.shS at this; simp only [t1, coe_sum] at this
    exact (EReal.coe_injective this).symm
  have t2 : ∀ j, ((P.qs j : ℝ) : EReal) * bk j * ((oh h.val j : ℝ) : EReal) = ((oh h.val j * P.qs j * (bk j).toReal : ℝ) : EReal) := by
    intro j
    by_cases c : oh h.val j * P.qs j = 0
    · rw [c, zero_mul]
      rcases mul_eq_zero.1 c with c | c <;> rw [c] <;> simp
    · rw [toR ((keyj j).resolve_left c).1, coe_mul', coe_mul']
      refine congrArg _ ?_
      show P.qs j * (bk j).toReal * oh h.val j = oh h.val j * P.qs j * (((bk j).toReal : ℝ) : EReal).toReal
      rw [EReal.toReal_coe]; ring
  have t3 : ∀ d, kb d * ((P.wsT h.val d : ℝ) : EReal) = (((kb d).toReal * P.wsT h.val d : ℝ) : EReal) := by
    intro d
    by_cases c : ∃ x : ℝ, kb d = (x : EReal)
    · rw [toR c, coe_mul']; rfl
    · have : P.wsT h.val d = 0 := sum_eq_zero fun j _ => by
        rcases keyj j with z | z
        · rw [z, zero_mul]
        · rw [(z.2 d).resolve_right c, mul_zero]
      rw [this, mul_zero]; simp
  simp only [t2, t3, coe_sum, coe_add']
  refine congrArg _ ?_
  rw [e1]
  have : ∑ d, (kb d).toReal * P.wsT h.val d = ∑ j, oh h.val j * P.qs j * ∑ d, (kb d).toReal * P.Wk j d := by
    simp only [Par.wsT, mul_sum]
    rw [sum_comm]
    exact sum_congr rfl fun j _ => sum_congr rfl fun d _ => by ring
  rw [this, ← sum_add_distrib]
  exact sum_congr rfl fun j _ => by ring

end Cert.Pool
-- ==== Proof.Value.Pay0.lean ====
module
public import proofs.«01_k».proof.Proof.Value.Math
public import proofs.«01_k».proof.Proof.KernelIdeal.Prologue
public import Idealize.ShloMosaic.Lib.Pointwise
public import Idealize.ShloMosaic.Lib.Pipeline.ValueKit
/-! What the first call leaves in its five results, element by element, over real inputs, with the query, the key's and the value's shift and bias free. -/
@[expose] public section
set_option maxRecDepth 16384
noncomputable section
namespace Cert.KernelIdeal.Val
open Cert.KernelIdeal Cert.KernelIdeal.Gen Cert.KernelIdeal.Hand Cert.Pool Idealize.ShloMosaic Idealize.ShloMosaic.Tactic

/-- A select on the equality of two small words. -/
theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  have h : (BitVec.ofNat 32 a = BitVec.ofNat 32 b) ↔ a = b :=
    ⟨fun e => by
      have := congrArg BitVec.toNat e
      rwa [BitVec.toNat_ofNat, BitVec.toNat_ofNat, Nat.mod_eq_of_lt ha, Nat.mod_eq_of_lt hb] at this, fun e => by rw [e]⟩
  by_cases c : a = b
  · subst c; simp [Scalar.select, IntOp.cmpi]
  · have e : (BitVec.ofNat 32 a == BitVec.ofNat 32 b) = false := beq_false_of_ne (mt h.mp c)
    rw [if_neg c]; simp [Scalar.select, IntOp.cmpi, e]

theorem sel_ne (a b : BitVec 32) (h : a ≠ b) (x y : EReal) : Scalar.select (IntOp.cmpi .eq a b) x y = y := by
  have e : (a == b) = false := beq_false_of_ne h
  simp [Scalar.select, IntOp.cmpi, e]

/-- The head of a column, as the program computes it on words. -/
theorem quot_word : ∀ j : Fin 1024,
    Scalar.select
          (IntOp.andi
            (IntOp.cmpi CmpIPredicate.ne
              (IntOp.subi (BitVec.setWidth 32 (IntOp.cmpi CmpIPredicate.sgt (BitVec.ofNat 32 ↑j) 0#32))
                (BitVec.setWidth 32 (IntOp.cmpi CmpIPredicate.slt (BitVec.ofNat 32 ↑j) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑j) 64#32) 0#32))
          (IntOp.subi (IntOp.divsi ArithUnit.vector (BitVec.ofNat 32 ↑j) 64#32) 1#32)
          (IntOp.divsi ArithUnit.vector (BitVec.ofNat 32 ↑j) 64#32) = BitVec.ofNat 32 (j.val / 64) := by decide +kernel

theorem oh_word (h : ℕ) (hh : h < 2 ^ 32) (j : Fin 1024) :
    Scalar.select (IntOp.cmpi .eq (BitVec.ofNat 32 h) (BitVec.ofNat 32 (j.val / 64))) (1 : EReal) 0 = ((oh h j : ℝ) : EReal) := by
  rw [sel_eq h (j.val / 64) hh (by omega)]
  unfold oh
  by_cases c : h = j.val / 64
  · rw [if_pos c, if_pos c.symm]; rfl
  · rw [if_neg c, if_neg (Ne.symm c)]; rfl

theorem hmf_at (h : Fin 16) (j : Fin 1024) : k1_pay12 (F := Ideal) (ix2 h j) = ((oh h.val j : ℝ) : EReal) := by
  pointwise [k1_pay12]
  rw [quot_word]; exact oh_word _ (by omega) j

variable (P : Par) {kb bk vb : Fin 1024 → EReal} (x0 x1 x2 x4 x6 x7 x8 x10 x11 x12 x13 : Vec Ideal S1x1024 .f32) (x3 x5 x9 : Vec Ideal S1024x1024 .f32)
  (h0 : ∀ j, nrmE (fun d => x0 (ix2 0 d)) j = ((P.z j : ℝ) : EReal)) (h1 : ∀ j, x1 (ix2 0 j) = ((P.qg j : ℝ) : EReal)) (h2 : ∀ j, x2 (ix2 0 j) = ((P.qb j : ℝ) : EReal)) (h4 : ∀ j, x4 (ix2 0 j) = ((P.bq j : ℝ) : EReal)) (h6 : ∀ j, x6 (ix2 0 j) = bk j) (h7 : ∀ j, x7 (ix2 0 j) = ((P.kg j : ℝ) : EReal)) (h8 : ∀ j, x8 (ix2 0 j) = kb j) (h10 : ∀ j, x10 (ix2 0 j) = ((P.vg j : ℝ) : EReal)) (h11 : ∀ j, x11 (ix2 0 j) = vb j) (h12 : ∀ j, x12 (ix2 0 j) = ((P.g j : ℝ) : EReal)) (h13 : ∀ j, x13 (ix2 0 j) = ((P.b j : ℝ) : EReal))
  (h3 : ∀ i j, x3 (ix2 i j) = ((P.Wq i j : ℝ) : EReal)) (h5 : ∀ i j, x5 (ix2 i j) = ((P.Wk i j : ℝ) : EReal)) (h9 : ∀ i j, x9 (ix2 i j) = ((P.Wv i j : ℝ) : EReal))

include h0 h1 h2 h3 h4 in
theorem qs_at (j : Fin 1024) : k0_pay7 (F := Ideal) x0 x1 x2 x3 x4 (ix2 0 j) = ((P.qs j : ℝ) : EReal) := by
  pointwise [k0_pay7]
  simp only [nrmE, meanE] at h0
  simp only [lit_1024, lit_eLn, h0, h1, h2, h3, h4, lit_eighth, coe_mul', coe_add', coe_sum]
  rfl
theorem oh_at (h : Fin 128) (j : Fin 1024) :
    k0_pay8 (F := Ideal) (k0_pay26 x0 x1 x2 x3 x4 x5 x6 x7 x8 x9 x10 x11 x12 x13) (k0_pay27 x0 x1 x2 x3 x4 x5 x6 x7 x8 x9 x10 x11 x12 x13) (ix2 h j) = ((oh h.val j : ℝ) : EReal) := by
  pointwise [k0_pay8, k0_pay26, k0_pay27]
  rw [quot_word]; exact oh_word _ (by omega) j
include h0 h1 h2 h3 h4 h5 in
theorem wsT9_at (h : Fin 128) (d : Fin 1024) :
    k0_pay9 (k0_pay31 x0 x1 x2 x3 x4 x5 x6 x7 x8 x9 x10 x11 x12 x13) (k0_pay26 x0 x1 x2 x3 x4 x5 x6 x7 x8 x9 x10 x11 x12 x13) (k0_pay27 x0 x1 x2 x3 x4 x5 x6 x7 x8 x9 x10 x11 x12 x13) x5 (ix2 h d) = ((P.wsT h.val d : ℝ) : EReal) := by
  have hq : ∀ j, k0_pay31 x0 x1 x2 x3 x4 x5 x6 x7 x8 x9 x10 x11 x12 x13 (ix2 0 j) = ((P.qs j : ℝ) : EReal) := fun j => by
    unfold k0_pay31; frame_out; exact qs_at P x0 x1 x2 x4 x3 h0 h1 h2 h4 h3 j
  pointwise [k0_pay9]
  simp only [oh_at, hq, h5, coe_mul', coe_sum]
  rfl
include h0 h1 h2 h3 h4 h5 in
theorem wsT_at (h : Fin 128) (d : Fin 1024) : k0_pay33 x0 x1 x2 x3 x4 x5 x6 x7 x8 x9 x10 x11 x12 x13 (ix2 h d) = ((P.wsT h.val d : ℝ) : EReal) := by
  unfold k0_pay33; frame_out
  exact wsT9_at P x0 x1 x2 x4 x6 x7 x8 x10 x11 x12 x13 x3 x5 x9 h0 h1 h2 h4 h3 h5 h d
include h0 h1 h2 h3 h4 h5 h7 in
theorem wsTk_at (h : Fin 128) (d : Fin 1024) : k0_pay12 (k0_pay33 x0 x1 x2 x3 x4 x5 x6 x7 x8 x9 x10 x11 x12 x13) x7 (ix2 h d) = ((P.wsTk h.val d : ℝ) : EReal) := by
  pointwise [k0_pay12]
  simp only [wsT_at P x0 x1 x2 x4 x6 x7 x8 x10 x11 x12 x13 x3 x5 x9 h0 h1 h2 h4 h3 h5, h7, coe_mul']
  rfl
include h0 h1 h2 h3 h4 h5 h6 h8 in
theorem biasp_at (h : Fin 16) (hb : P.shS kb bk h = ((P.bias h.val : ℝ) : EReal)) : out0_15 x0 x1 x2 x3 x4 x5 x6 x7 x8 x9 x10 x11 x12 x13 (ix2 0 ⟨h.val, by omega⟩) = ((P.bias h.val : ℝ) : EReal) := by
  have hw : ∀ (k : Fin 128) d, k0_pay9 (k0_pay31 x0 x1 x2 x3 x4 x5 x6 x7 x8 x9 x10 x11 x12 x13) (k0_pay26 x0 x1 x2 x3 x4 x5 x6 x7 x8 x9 x10 x11 x12 x13) (k0_pay27 x0 x1 x2 x3 x4 x5 x6 x7 x8 x9 x10 x11 x12 x13) x5 (ix2 k d) = ((P.wsT k.val d : ℝ) : EReal) :=
    wsT9_at P x0 x1 x2 x4 x6 x7 x8 x10 x11 x12 x13 x3 x5 x9 h0 h1 h2 h4 h3 h5
  have hq : ∀ j, k0_pay31 x0 x1 x2 x3 x4 x5 x6 x7 x8 x9 x10 x11 x12 x13 (ix2 0 j) = ((P.qs j : ℝ) : EReal) := fun j => by
    unfold k0_pay31; frame_out; exact qs_at P x0 x1 x2 x4 x3 h0 h1 h2 h4 h3 j
  have hl : ∀ k : Fin 16, ∀ y z : EReal, Scalar.select (IntOp.cmpi CmpIPredicate.slt (BitVec.ofNat 32 k.val) 16#32) y z = y := by
    intro k y z
    have : ∀ k : Fin 16, IntOp.cmpi CmpIPredicate.slt (BitVec.ofNat 32 k.val) 16#32 = 1#1 := by decide +kernel
    rw [this k]; rfl
  frame_out
  pointwise [k0_pay11, k0_pay32, k0_pay10]
  simp only [hw, hq, hl, oh_at, h6, h8, add_zero]
  exact P.bias_eq kb bk h _ hb
include h0 h1 h2 h3 h4 h5 h7 h12 h13 in
theorem wall_at (d : Fin 1024) (h : Fin 128) : out0_14 x0 x1 x2 x3 x4 x5 x6 x7 x8 x9 x10 x11 x12 x13 (ix2 d ⟨h.val, by omega⟩) = ((P.wsTk h.val d * P.g d : ℝ) : EReal) := by
  have hw := wsTk_at P x0 x1 x2 x4 x6 x7 x8 x10 x11 x12 x13 x3 x5 x9 h0 h1 h2 h4 h7 h3 h5
  frame_out
  pointwise [k0_pay25, k0_pay27, k0_pay28, k0_pay29, k0_pay4, k0_pay5]
  rw [Finset.sum_eq_single d]
  · rw [sel_eq _ _ (by omega) (by omega), if_pos rfl, hw, h12, coe_mul']
  · intro x _ hx
    rw [sel_eq _ _ (by omega) (by omega), if_neg (fun c => hx (Fin.ext c.symm))]
  · intro c; exact absurd (Finset.mem_univ _) c

/-- The statistic columns of the second operand. -/
def stat (g b : Row) (k : ℕ) (d : Fin 1024) : ℝ :=
  (if k = 0 then 1 / 1024 else 0) + (if k = 1 then g d / 1024 else 0) + (if k = 2 then g d * g d / 1024 else 0) + (if k = 3 then g d * b d / 1024 else 0)
theorem ite_coe {p : Prop} [Decidable p] (a : ℝ) : (if p then ((a : ℝ) : EReal) else 0) = (((if p then a else 0 : ℝ)) : EReal) := by
  split <;> rfl
include h12 h13 in
theorem stat_at (d : Fin 1024) (k : Fin 128) : out0_14 x0 x1 x2 x3 x4 x5 x6 x7 x8 x9 x10 x11 x12 x13 (ix2 d ⟨128 + k.val, by omega⟩) = ((stat P.g P.b k.val d : ℝ) : EReal) := by
  frame_out
  pointwise [k0_pay25, k0_pay23, k0_pay24, k0_pay27, k0_pay28, k0_pay29, k0_pay4, k0_pay5]
  rw [Finset.sum_eq_single d]
  · rw [sel_eq d.val d.val (by omega) (by omega), if_pos rfl]
    simp only [h12, h13]
    have w : ∀ (n : ℕ) (hn : n < 2 ^ 32) (a : ℝ), Scalar.select (IntOp.cmpi .eq (BitVec.ofNat 32 k.val) (BitVec.ofNat 32 n)) ((a : ℝ) : EReal) 0 = ((if k.val = n then a else 0 : ℝ) : EReal) :=
      fun n hn a => (sel_eq _ _ (by omega) hn _ _).trans (ite_coe a)
    simp only [lit_1024, lit_inv1024, coe_mul', div_1024]
    rw [w 0 (by norm_num), w 1 (by norm_num), w 2 (by norm_num), w 3 (by norm_num)]
    simp only [coe_add']; rfl
  · intro x _ hx
    rw [sel_eq _ _ (by omega) (by omega), if_neg (fun c => hx (Fin.ext c.symm))]
  · intro c; exact absurd (Finset.mem_univ _) c
include h9 h10 h12 in
theorem wvgg_at (i d : Fin 1024) : out0_17 x0 x1 x2 x3 x4 x5 x6 x7 x8 x9 x10 x11 x12 x13 (ix2 i d) = ((P.wvg i d * P.g d : ℝ) : EReal) := by
  frame_out
  pointwise [k0_pay2, k0_pay1, k0_pay28, k0_pay4]
  rw [h9, h10, h12, coe_mul', coe_mul']; rfl
include h9 h10 h11 h12 h13 in
theorem vrows_at (j : Fin 1024) : out0_18 x0 x1 x2 x3 x4 x5 x6 x7 x8 x9 x10 x11 x12 x13 (ix2 0 j) = (∑ d, vb d * ((P.Wv j d : ℝ) : EReal)) ∧ out0_18 x0 x1 x2 x3 x4 x5 x6 x7 x8 x9 x10 x11 x12 x13 (ix2 1 j) = ((P.vr1 j : ℝ) : EReal)
    ∧ out0_18 x0 x1 x2 x3 x4 x5 x6 x7 x8 x9 x10 x11 x12 x13 (ix2 2 j) = ((P.vr2 j : ℝ) : EReal) ∧ out0_18 x0 x1 x2 x3 x4 x5 x6 x7 x8 x9 x10 x11 x12 x13 (ix2 3 j) = ((P.vr3 j : ℝ) : EReal) := by
  frame_out
  refine ⟨?_, ?_, ?_, ?_⟩
  all_goals
    pointwise [k0_pay3, k0_pay1, k0_pay28, k0_pay29, k0_pay30, k0_pay4, k0_pay5, k0_pay6]
    simp only [dif_pos, dif_neg, h9, h10, h11, h12, h13, one_mul, coe_mul', coe_sum]
    first | done | rfl | exact coe_sub' 0 _
include h0 h1 h2 h3 h4 h5 h7 h12 h13 in
theorem crows_at (h : Fin 128) : out0_16 x0 x1 x2 x3 x4 x5 x6 x7 x8 x9 x10 x11 x12 x13 (ix2 0 h) = ((P.cb h.val : ℝ) : EReal) ∧ out0_16 x0 x1 x2 x3 x4 x5 x6 x7 x8 x9 x10 x11 x12 x13 (ix2 1 h) = ((0 - P.c1 h.val : ℝ) : EReal)
    ∧ out0_16 x0 x1 x2 x3 x4 x5 x6 x7 x8 x9 x10 x11 x12 x13 (ix2 2 h) = ((0 - P.cg h.val : ℝ) : EReal) := by
  have hw := wsTk_at P x0 x1 x2 x4 x6 x7 x8 x10 x11 x12 x13 x3 x5 x9 h0 h1 h2 h4 h7 h3 h5
  frame_out
  refine ⟨?_, ?_, ?_⟩
  all_goals
    pointwise [k0_pay22, k0_pay13, k0_pay14, k0_pay15, k0_pay28, k0_pay29, k0_pay30, k0_pay4, k0_pay5, k0_pay6]
    simp only [dif_pos, dif_neg, hw, h12, h13, one_mul, coe_mul', coe_sum]
    first | rfl | exact coe_sub' 0 _
include h12 h13 in
theorem mrow_at : out0_16 x0 x1 x2 x3 x4 x5 x6 x7 x8 x9 x10 x11 x12 x13 (ix2 3 0) = ((mean P.g : ℝ) : EReal) ∧ out0_16 x0 x1 x2 x3 x4 x5 x6 x7 x8 x9 x10 x11 x12 x13 (ix2 3 1) = ((mean P.b : ℝ) : EReal)
    ∧ out0_16 x0 x1 x2 x3 x4 x5 x6 x7 x8 x9 x10 x11 x12 x13 (ix2 3 2) = ((mean (fun d => P.g d * P.g d) : ℝ) : EReal) ∧ out0_16 x0 x1 x2 x3 x4 x5 x6 x7 x8 x9 x10 x11 x12 x13 (ix2 3 3) = ((mean (fun d => P.g d * P.b d) : ℝ) : EReal)
    ∧ out0_16 x0 x1 x2 x3 x4 x5 x6 x7 x8 x9 x10 x11 x12 x13 (ix2 3 4) = ((mean (fun d => P.b d * P.b d) : ℝ) : EReal) := by
  frame_out
  refine ⟨?_, ?_, ?_, ?_, ?_⟩
  all_goals
    pointwise [k0_pay22, k0_pay32, k0_pay21, k0_pay16, k0_pay17, k0_pay18, k0_pay19, k0_pay20, k0_pay28, k0_pay29, k0_pay30, k0_pay4, k0_pay5, k0_pay6]
    simp (disch := decide) only [h12, h13, lit_1024, coe_mul', coe_sum, div_1024, sel_ne, zero_add, add_zero]
    rfl
end Cert.KernelIdeal.Val
-- ==== Proof.Value.Pay1.lean ====
module
public import proofs.«01_k».proof.Proof.Value.Pay0
public import proofs.«01_k».proof.Proof.KernelIdeal.Main
/-! What one block of rows contributes in the second call: its scores and the coefficients of its rows, over real inputs. -/
@[expose] public section
set_option maxRecDepth 16384
noncomputable section
namespace Cert.KernelIdeal.Val
open Cert.KernelIdeal Cert.KernelIdeal.Gen Cert.KernelIdeal.Hand Cert.Pool Idealize.ShloMosaic Idealize.ShloMosaic.Tactic

theorem stat_0 (g b : Row) (d : Fin 1024) : stat g b 0 d = 1 / 1024 := by unfold stat; norm_num
theorem stat_1 (g b : Row) (d : Fin 1024) : stat g b 1 d = g d / 1024 := by unfold stat; norm_num
theorem stat_2 (g b : Row) (d : Fin 1024) : stat g b 2 d = g d * g d / 1024 := by unfold stat; norm_num
theorem stat_3 (g b : Row) (d : Fin 1024) : stat g b 3 d = g d * b d / 1024 := by unfold stat; norm_num

/-- What the second call reads from the first: the operand, the bias row and the constant rows. -/
structure Consts (P : Par) (w : Vec Ideal S1024x256 .bf16) (bp : Vec Ideal S1x128 .f32) (cr : Vec Ideal S8x128 .f32) : Prop where
  wall : ∀ (d : Fin 1024) (h : Fin 16), w (ix2 d ⟨h.val, by omega⟩) = ((P.wsTk h.val d * P.g d : ℝ) : EReal)
  stat : ∀ (d : Fin 1024) (k : Fin 128), w (ix2 d ⟨128 + k.val, by omega⟩) = ((stat P.g P.b k.val d : ℝ) : EReal)
  bias : ∀ h : Fin 16, bp (ix2 0 ⟨h.val, by omega⟩) = ((P.bias h.val : ℝ) : EReal)
  c0 : ∀ h : Fin 16, cr (ix2 0 ⟨h.val, by omega⟩) = ((P.cb h.val : ℝ) : EReal)
  c1 : ∀ h : Fin 16, cr (ix2 1 ⟨h.val, by omega⟩) = ((0 - P.c1 h.val : ℝ) : EReal)
  c2 : ∀ h : Fin 16, cr (ix2 2 ⟨h.val, by omega⟩) = ((0 - P.cg h.val : ℝ) : EReal)
  m0 : cr (ix2 3 0) = ((mean P.g : ℝ) : EReal)
  m1 : cr (ix2 3 1) = ((mean P.b : ℝ) : EReal)
  m2 : cr (ix2 3 2) = ((mean (fun d => P.g d * P.g d) : ℝ) : EReal)
  m3 : cr (ix2 3 3) = ((mean (fun d => P.g d * P.b d) : ℝ) : EReal)
  m4 : cr (ix2 3 4) = ((mean (fun d => P.b d * P.b d) : ℝ) : EReal)

/-- The coefficients of a row. -/
def coef (P : Par) (f : Row) (k : ℕ) : ℝ :=
  if k = 0 then r2 f P.g P.b else if k = 1 then r2 f P.g P.b * mu2 f P.g P.b else if k = 2 then aa f P.g P.b * mean f
  else if k = 3 then aa f P.g P.b else if k = 4 then 1 else 0

variable {P : Par} {w : Vec Ideal S1024x256 .bf16} {bp : Vec Ideal S1x128 .f32} {cr : Vec Ideal S8x128 .f32} (H : Consts P w bp cr)
  {xb : Vec Ideal S1x4096x1024 .f32} {X : Fin 4096 → Row} (hx : ∀ r d, xb (ix3 0 r d) = ((X r d : ℝ) : EReal))
include H hx

theorem s1_at (k : Fin 8) (r : Fin 4096) : k1_pay22 xb w (ix2 k r) = ((∑ d, X r d * stat P.g P.b k.val d : ℝ) : EReal) := by
  have hs : ∀ d, w (ix2 d ⟨128 + k.val, by omega⟩) = ((stat P.g P.b k.val d : ℝ) : EReal) := fun d => H.stat d ⟨k.val, by omega⟩
  pointwise [k1_pay22, k1_pay21, k1_pay19, k1_pay20]
  simp only [hx, hs, coe_mul', coe_sum]
theorem s2_at (k : Fin 8) (r : Fin 4096) : k1_pay23 xb w (ix2 k r) = ((∑ d, X r d * X r d * stat P.g P.b k.val d : ℝ) : EReal) := by
  have hs : ∀ d, w (ix2 d ⟨128 + k.val, by omega⟩) = ((stat P.g P.b k.val d : ℝ) : EReal) := fun d => H.stat d ⟨k.val, by omega⟩
  pointwise [k1_pay23, k1_pay19, k1_pay20]
  simp only [hx, hs, coe_mul', coe_sum]
theorem mu1_at (r : Fin 4096) : k1_pay24 xb w (ix2 0 r) = ((mean (X r) : ℝ) : EReal) := by
  pointwise [k1_pay24]
  rw [s1_at H hx]
  exact congrArg _ ((Finset.sum_congr rfl fun d _ => congrArg _ (stat_0 _ _ d)).trans (mean_mul (X r)))
theorem gb_at (r : Fin 4096) : k1_pay25 xb w (ix2 0 r) = ((∑ d, X r d * (P.g d * P.b d / 1024) : ℝ) : EReal) := by
  pointwise [k1_pay25]
  rw [s1_at H hx]
  exact congrArg _ (Finset.sum_congr rfl fun d _ => congrArg _ (stat_3 _ _ d))
theorem r1_at (r : Fin 4096) : k1_pay30 xb w (ix2 0 r) = ((r1 (X r) : ℝ) : EReal) := by
  have e : ∑ d, X r d * X r d * stat P.g P.b 0 d - mean (X r) * mean (X r) = var (X r) := by
    rw [← var1_eq (X r), mean_mul]
    simp only [stat_0]
    simp only [mean, Finset.sum_div, mul_one_div]
  pointwise [k1_pay30]
  rw [mu1_at H hx, s2_at H hx, coe_mul', coe_sub', lit_eLn, coe_add']
  refine Eq.trans ?_ (rsqrt_var (X r))
  exact congrArg (fun z : ℝ => Ideal.rsqrt ((z + eLn : ℝ) : EReal)) e
theorem mu2_at (r : Fin 4096) : k1_pay31 xb w cr (ix2 0 r) = ((mu2 (X r) P.g P.b : ℝ) : EReal) := by
  pointwise [k1_pay31, k1_pay26]
  rw [mu1_at H hx, s1_at H hx, r1_at H hx, H.m0, H.m1, coe_mul', coe_sub', coe_mul', coe_add']
  refine congrArg _ (Eq.trans ?_ (mu2_eq (X r) P.g P.b))
  rw [mean_mul]
  exact congrArg (fun z => rsq (var (X r)) * (z - mean (X r) * mean P.g) + mean P.b) (Finset.sum_congr rfl fun d _ => congrArg _ (stat_1 _ _ d))
theorem r1sq_at (r : Fin 4096) : k1_pay32 xb w (ix2 0 r) = ((r1 (X r) * r1 (X r) : ℝ) : EReal) := by
  pointwise [k1_pay32]
  rw [r1_at H hx, coe_mul']
theorem sg2_at (r : Fin 4096) : k1_pay33 xb w (ix2 0 r)
    = ((∑ d, X r d * X r d * (P.g d * P.g d / 1024) - 2 * mean (X r) * (∑ d, X r d * (P.g d * P.g d / 1024)) : ℝ) : EReal) := by
  pointwise [k1_pay33]
  rw [mu1_at H hx, s1_at H hx, s2_at H hx, lit_two, coe_mul', coe_mul', coe_sub']
  change ((∑ d, X r d * X r d * stat P.g P.b 2 d - 2 * mean (X r) * ∑ d, X r d * stat P.g P.b 2 d : ℝ) : EReal) = _
  simp only [stat_2]
theorem r2_of (r : Fin 4096) : Ideal.rsqrt (((r1 (X r) * r1 (X r)) * (∑ d, X r d * X r d * (P.g d * P.g d / 1024) - 2 * mean (X r) * (∑ d, X r d * (P.g d * P.g d / 1024))
        + mean (X r) * mean (X r) * mean (fun d => P.g d * P.g d))
      + 2 * r1 (X r) * (∑ d, X r d * (P.g d * P.b d / 1024) - mean (X r) * mean (fun d => P.g d * P.b d))
      + mean (fun d => P.b d * P.b d) - mu2 (X r) P.g P.b * mu2 (X r) P.g P.b + eLn : ℝ) : EReal) = ((r2 (X r) P.g P.b : ℝ) : EReal) :=
  (congrArg (fun z : ℝ => Ideal.rsqrt ((z + eLn : ℝ) : EReal)) (var2_eq (X r) P.g P.b)).trans (rsqrt_var _)
theorem coef_at (k : Fin 8) (r : Fin 4096) : k1_pay34 (k1_pay24 xb w) (k1_pay25 xb w) (k1_pay27 cr) (k1_pay28 cr) (k1_pay29 cr) (k1_pay30 xb w) (k1_pay31 xb w cr) (k1_pay32 xb w) (k1_pay33 xb w) (ix2 k r) = ((coef P (X r) k.val : ℝ) : EReal) := by
  obtain ⟨k, hk⟩ := k
  interval_cases k
  all_goals
    pointwise [k1_pay34]
    try simp only [k1_pay27, k1_pay28, k1_pay29]
    try pointwise [k1_pay26]
    try simp only [mu1_at H hx, gb_at H hx, r1_at H hx, mu2_at H hx, r1sq_at H hx, sg2_at H hx, H.m2, H.m3, H.m4, lit_two, lit_eLn, lit_one, coe_mul', coe_add', coe_sub', r2_of H hx]
    try rfl
theorem a_at (r : Fin 4096) (h : Fin 128) : k1_pay35 (k1_pay24 xb w) (k1_pay25 xb w) (k1_pay27 cr) (k1_pay28 cr) (k1_pay29 cr) (k1_pay30 xb w) (k1_pay31 xb w cr) (k1_pay32 xb w) (k1_pay33 xb w) (ix2 r h) = ((aa (X r) P.g P.b : ℝ) : EReal) := by
  pointwise [k1_pay35]
  rw [Finset.sum_eq_single (3 : Fin 8)]
  · rw [coef_at H hx]; rfl
  · intro k _ hk
    exact (sel_eq k.val 3 (by omega) (by norm_num) _ _).trans (if_neg fun c => hk (Fin.ext c))
  · intro c; exact absurd (Finset.mem_univ _) c
theorem s_at (r : Fin 4096) (h : Fin 16) : k1_pay36 (k1_pay21 xb w) (k1_pay24 xb w) (k1_pay25 xb w) (k1_pay26 cr) (k1_pay27 cr) (k1_pay28 cr) (k1_pay29 cr) (k1_pay30 xb w) (k1_pay31 xb w cr) (k1_pay32 xb w) (k1_pay33 xb w) bp (ix2 r ⟨h.val, by omega⟩) = ((P.score (X r) h : ℝ) : EReal) := by
  have e : k1_pay21 xb w (ix2 r ⟨h.val, by omega⟩) = ((∑ d, X r d * (P.wsTk h.val d * P.g d) : ℝ) : EReal) := by
    pointwise [k1_pay21, k1_pay19, k1_pay20]
    simp only [hx, H.wall, coe_mul', coe_sum]
  rw [← P.kscore_eq]
  pointwise [k1_pay36]
  rw [Fin.sum_univ_three]
  simp only [a_at H hx, e, coef_at H hx, mul_zero, Finset.sum_const_zero, add_zero, H.bias]
  pointwise [k1_pay26]
  rw [H.c0, H.c1, H.c2]
  simp only [coe_mul', coe_add']
  rfl
theorem cmax_at (h : Fin 16) : k1_pay37 (k1_pay21 xb w) (k1_pay24 xb w) (k1_pay25 xb w) (k1_pay26 cr) (k1_pay27 cr) (k1_pay28 cr) (k1_pay29 cr) (k1_pay30 xb w) (k1_pay31 xb w cr) (k1_pay32 xb w) (k1_pay33 xb w) bp (ix2 0 ⟨h.val, by omega⟩) = ((mx (fun r => P.score (X r) h) : ℝ) : EReal) := by
  pointwise [k1_pay37]
  rw [lit_bot]
  refine Eq.trans ?_ (fold_max_eq_mx (by norm_num) _)
  simp only [s_at H hx]
end Cert.KernelIdeal.Val
-- ==== Proof.Value.Pay2.lean ====
module
public import proofs.«01_k».proof.Proof.Value.Pay1
/-! The second call's running sums over two blocks of rows, and the output row they give. -/
@[expose] public section
set_option maxRecDepth 16384
noncomputable section
namespace Cert.KernelIdeal.Val
open Cert.KernelIdeal Cert.KernelIdeal.Gen Cert.KernelIdeal.Hand Cert.Pool Idealize.ShloMosaic Idealize.ShloMosaic.Tactic

/-- What the running sums take from one block of rows. -/
structure Blk (P : Par) (X : Fin 4096 → Row) (xh : Vec Ideal S4096x1024 .bf16) (cf : Vec Ideal S8x4096 .f32) (af s : Vec Ideal S4096x128 .f32)
    (cm : Vec Ideal S1x128 .f32) : Prop where
  x : ∀ r d, xh (ix2 r d) = ((X r d : ℝ) : EReal)
  cf : ∀ (k : Fin 8) r, cf (ix2 k r) = ((coef P (X r) k.val : ℝ) : EReal)
  af : ∀ r (h : Fin 128), af (ix2 r h) = ((aa (X r) P.g P.b : ℝ) : EReal)
  s : ∀ r (h : Fin 16), s (ix2 r ⟨h.val, by omega⟩) = ((P.score (X r) h : ℝ) : EReal)
  cm : ∀ h : Fin 16, cm (ix2 0 ⟨h.val, by omega⟩) = ((mx (fun r => P.score (X r) h) : ℝ) : EReal)

theorem blk_of {P : Par} {w : Vec Ideal S1024x256 .bf16} {bp : Vec Ideal S1x128 .f32} {cr : Vec Ideal S8x128 .f32} (H : Consts P w bp cr)
    {xb : Vec Ideal S1x4096x1024 .f32} {X : Fin 4096 → Row} (hx : ∀ r d, xb (ix3 0 r d) = ((X r d : ℝ) : EReal)) :
    Blk P X (k1_pay19 xb) (k1_pay34 (k1_pay24 xb w) (k1_pay25 xb w) (k1_pay27 cr) (k1_pay28 cr) (k1_pay29 cr) (k1_pay30 xb w) (k1_pay31 xb w cr) (k1_pay32 xb w) (k1_pay33 xb w)) (k1_pay35 (k1_pay24 xb w) (k1_pay25 xb w) (k1_pay27 cr) (k1_pay28 cr) (k1_pay29 cr) (k1_pay30 xb w) (k1_pay31 xb w cr) (k1_pay32 xb w) (k1_pay33 xb w)) (k1_pay36 (k1_pay21 xb w) (k1_pay24 xb w) (k1_pay25 xb w) (k1_pay26 cr) (k1_pay27 cr) (k1_pay28 cr) (k1_pay29 cr) (k1_pay30 xb w) (k1_pay31 xb w cr) (k1_pay32 xb w) (k1_pay33 xb w) bp) (k1_pay37 (k1_pay21 xb w) (k1_pay24 xb w) (k1_pay25 xb w) (k1_pay26 cr) (k1_pay27 cr) (k1_pay28 cr) (k1_pay29 cr) (k1_pay30 xb w) (k1_pay31 xb w cr) (k1_pay32 xb w) (k1_pay33 xb w) bp) where
  x r d := by pointwise [k1_pay19]; exact hx r d
  cf := coef_at H hx
  af := a_at H hx
  s := s_at H hx
  cm := cmax_at H hx

section Step
variable {P : Par} {X : Fin 4096 → Row} {xh : Vec Ideal S4096x1024 .bf16} {cf : Vec Ideal S8x4096 .f32} {af s : Vec Ideal S4096x128 .f32}
  {cm m : Vec Ideal S1x128 .f32} (B : Blk P X xh cf af s cm) (h : Fin 16) (M al : ℝ)
  (hM : k1_pay1 cm m (ix2 0 ⟨h.val, by omega⟩) = ((M : ℝ) : EReal)) (hal : k1_pay2 cm m (ix2 0 ⟨h.val, by omega⟩) = ((al : ℝ) : EReal))
include B hM

theorem p3_at (r : Fin 4096) : k1_pay3 s cm m (ix2 r ⟨h.val, by omega⟩) = ((Real.exp (P.score (X r) h - M) : ℝ) : EReal) := by
  pointwise [k1_pay3]
  rw [hM, B.s, coe_sub', exp_coe]
include hal
theorem p4_at (t : Vec Ideal S8x128 .f32) (k : Fin 8) (T : ℝ) (ht : t (ix2 k ⟨h.val, by omega⟩) = ((T : ℝ) : EReal)) :
    k1_pay4 cf s cm m t (ix2 k ⟨h.val, by omega⟩) = ((T * al + ∑ r, coef P (X r) k.val * Real.exp (P.score (X r) h - M) : ℝ) : EReal) := by
  pointwise [k1_pay4]
  simp only [hal, ht, B.cf, p3_at B h M hM, coe_mul', coe_sum, coe_add']
theorem p5_at (px : Vec Ideal S1024x128 .f32) (d : Fin 1024) (T : ℝ) (ht : px (ix2 d ⟨h.val, by omega⟩) = ((T : ℝ) : EReal)) :
    k1_pay5 xh af s cm m px (ix2 d ⟨h.val, by omega⟩) = ((T * al + ∑ r, X r d * (Real.exp (P.score (X r) h - M) * aa (X r) P.g P.b) : ℝ) : EReal) := by
  pointwise [k1_pay5]
  simp only [hal, ht, B.x, B.af, p3_at B h M hM, coe_mul', coe_sum, coe_add']
end Step

section First
variable {P : Par} {X : Fin 4096 → Row} {xh : Vec Ideal S4096x1024 .bf16} {cf : Vec Ideal S8x4096 .f32} {af s : Vec Ideal S4096x128 .f32}
  {cm : Vec Ideal S1x128 .f32} (B : Blk P X xh cf af s cm) (h : Fin 16)
include B
theorem f1_at : k1_pay1 (F := Ideal) cm (k1_pay16 (F := Ideal)) (ix2 0 ⟨h.val, by omega⟩) = ((mx (fun r => P.score (X r) h) : ℝ) : EReal) := by
  pointwise [k1_pay1, k1_pay16]
  rw [B.cm]; exact max_eq_right bot_le
theorem f2_at : k1_pay2 (F := Ideal) cm (k1_pay16 (F := Ideal)) (ix2 0 ⟨h.val, by omega⟩) = ((0 : ℝ) : EReal) := by
  have h1 := f1_at B h
  pointwise [k1_pay2]
  rw [h1]
  pointwise [k1_pay16]
  exact (congrArg Ideal.exp (bot_sub_coe _)).trans exp_bot
theorem f6_at : k1_pay6 (F := Ideal) cm (k1_pay16 (F := Ideal)) (ix2 0 ⟨h.val, by omega⟩) = ((mx (fun r => P.score (X r) h) : ℝ) : EReal) := by
  pointwise [k1_pay6]; exact f1_at B h
theorem f7_at (k : Fin 8) : k1_pay7 (F := Ideal) cf s cm (k1_pay16 (F := Ideal)) (k1_pay17 (F := Ideal)) (ix2 k ⟨h.val, by omega⟩)
    = ((∑ r, coef P (X r) k.val * Real.exp (P.score (X r) h - mx (fun r => P.score (X r) h)) : ℝ) : EReal) := by
  have h0 : k1_pay17 (F := Ideal) (ix2 k ⟨h.val, by omega⟩) = ((0 : ℝ) : EReal) := by pointwise [k1_pay17]; rfl
  pointwise [k1_pay7]
  rw [p4_at B h _ _ (f1_at B h) (f2_at B h) _ k 0 h0, zero_mul, zero_add]
theorem f8_at (d : Fin 1024) : k1_pay8 (F := Ideal) xh af s cm (k1_pay16 (F := Ideal)) (k1_pay18 (F := Ideal)) (ix2 d ⟨h.val, by omega⟩)
    = ((∑ r, X r d * (Real.exp (P.score (X r) h - mx (fun r => P.score (X r) h)) * aa (X r) P.g P.b) : ℝ) : EReal) := by
  have h0 : k1_pay18 (F := Ideal) (ix2 d ⟨h.val, by omega⟩) = ((0 : ℝ) : EReal) := by pointwise [k1_pay18]; rfl
  pointwise [k1_pay8]
  rw [p5_at B h _ _ (f1_at B h) (f2_at B h) _ d 0 h0, zero_mul, zero_add]
end First

/-- The first and the second block of 4096 rows. -/
abbrev lo (X : Fin 8192 → Row) (r : Fin 4096) : Row := X ⟨r.val, by have := r.isLt; omega⟩
abbrev up (X : Fin 8192 → Row) (r : Fin 4096) : Row := X ⟨4096 + r.val, by have := r.isLt; omega⟩

section Both
variable {P : Par} {X : Fin 8192 → Row} {xh xh' : Vec Ideal S4096x1024 .bf16} {cf cf' : Vec Ideal S8x4096 .f32} {af s af' s' : Vec Ideal S4096x128 .f32}
  {cm cm' : Vec Ideal S1x128 .f32} (B : Blk P (lo X) xh cf af s cm) (B' : Blk P (up X) xh' cf' af' s' cm') (h : Fin 16)
include B B'
theorem g1_at : k1_pay1 (F := Ideal) cm' (k1_pay6 (F := Ideal) cm (k1_pay16 (F := Ideal))) (ix2 0 ⟨h.val, by omega⟩) = ((mx (fun r => P.score (X r) h) : ℝ) : EReal) := by
  have h1 := f6_at B h
  pointwise [k1_pay1]
  rw [h1, B'.cm, max_coe]
  exact congrArg _ (mx_halves fun r => P.score (X r) h)
theorem g2_at : k1_pay2 (F := Ideal) cm' (k1_pay6 (F := Ideal) cm (k1_pay16 (F := Ideal))) (ix2 0 ⟨h.val, by omega⟩)
    = ((Real.exp (mx (fun r => P.score (lo X r) h) - mx (fun r => P.score (X r) h)) : ℝ) : EReal) := by
  have h1 := f6_at B h
  have h2 := g1_at B B' h
  pointwise [k1_pay2]
  rw [h2, h1, coe_sub', exp_coe]
/-- The rescaled first half and the second half make the whole sum. -/
theorem both (f : Fin 8192 → ℝ) : (∑ r : Fin 4096, f ⟨r.val, by have := r.isLt; omega⟩ * Real.exp (P.score (lo X r) h - mx (fun r => P.score (lo X r) h)))
      * Real.exp (mx (fun r => P.score (lo X r) h) - mx (fun r => P.score (X r) h))
      + ∑ r : Fin 4096, f ⟨4096 + r.val, by have := r.isLt; omega⟩ * Real.exp (P.score (up X r) h - mx (fun r => P.score (X r) h))
    = ∑ t, f t * P.ew X h t := by
  rw [rescale, sum_halves]; rfl
theorem t_at (k : Fin 8) : k1_pay4 (F := Ideal) cf' s' cm' (k1_pay6 (F := Ideal) cm (k1_pay16 (F := Ideal))) (k1_pay7 (F := Ideal) cf s cm (k1_pay16 (F := Ideal)) (k1_pay17 (F := Ideal))) (ix2 k ⟨h.val, by omega⟩)
    = ((∑ t, coef P (X t) k.val * P.ew X h t : ℝ) : EReal) :=
  (p4_at B' h _ _ (g1_at B B' h) (g2_at B B' h) _ k _ (f7_at B h k)).trans (congrArg _ (both B B' h fun t => coef P (X t) k.val))
theorem px_at (d : Fin 1024) : k1_pay5 (F := Ideal) xh' af' s' cm' (k1_pay6 (F := Ideal) cm (k1_pay16 (F := Ideal))) (k1_pay8 (F := Ideal) xh af s cm (k1_pay16 (F := Ideal)) (k1_pay18 (F := Ideal))) (ix2 d ⟨h.val, by omega⟩)
    = ((∑ t, X t d * (P.ew X h t * aa (X t) P.g P.b) : ℝ) : EReal) := by
  have sw : ∀ a b c : ℝ, a * (b * c) = a * c * b := fun a b c => by ring
  refine (p5_at B' h _ _ (g1_at B B' h) (g2_at B B' h) _ d _ (f8_at B h d)).trans (congrArg _ ?_)
  simp only [sw]
  exact both B B' h fun t => X t d * aa (X t) P.g P.b
end Both

section Out
variable {P : Par} {X : Fin 8192 → Row} {t : Vec Ideal S8x128 .f32} {px : Vec Ideal S1024x128 .f32} {wv : Vec Ideal S1024x1024 .bf16} {vr : Vec Ideal S8x1024 .f32}
  {bv bo og ob : Vec Ideal S1x1024 .f32} {vb bw : Fin 1024 → EReal} {Wo : Vec Ideal S1024x1024 .f32}
  (ht : ∀ (k : Fin 8) (h : Fin 16), t (ix2 k ⟨h.val, by omega⟩) = ((∑ s, coef P (X s) k.val * P.ew X h s : ℝ) : EReal))
  (hpx : ∀ (d : Fin 1024) (h : Fin 16), px (ix2 d ⟨h.val, by omega⟩) = ((∑ s, X s d * (P.ew X h s * aa (X s) P.g P.b) : ℝ) : EReal))
  (hwv : ∀ i d, wv (ix2 i d) = ((P.wvg i d * P.g d : ℝ) : EReal))
  (hv0 : ∀ j, vr (ix2 0 j) = ∑ d, vb d * ((P.Wv j d : ℝ) : EReal)) (hv1 : ∀ j, vr (ix2 1 j) = ((P.vr1 j : ℝ) : EReal))
  (hv2 : ∀ j, vr (ix2 2 j) = ((P.vr2 j : ℝ) : EReal)) (hv3 : ∀ j, vr (ix2 3 j) = ((P.vr3 j : ℝ) : EReal))
  (hbv : ∀ j, bv (ix2 0 j) = bw j)
include ht

/-- The reciprocal of the softmax's divisor. -/
theorem inv_at (h : Fin 16) : k1_pay11 (F := Ideal) t (ix2 0 h) = ((1 / (∑ s, P.ew X h s + eSm) : ℝ) : EReal) := by
  have h4 := ht 4 h
  pointwise [k1_pay11, k1_pay10]
  rw [h4, lit_eSm, coe_add']
  have e : ∑ s, coef P (X s) (4 : Fin 8).val * P.ew X h s = ∑ s, P.ew X h s := Finset.sum_congr rfl fun s _ => one_mul _
  rw [e]
  exact div_coe _ _ (P.den_ne X h)
include hpx hwv
theorem p13_at (j : Fin 1024) : k1_pay13 t px wv (ix1 j)
    = ((∑ d, (∑ s, X s d * (P.ew X (hd j) s * aa (X s) P.g P.b)) * (1 / (∑ s, P.ew X (hd j) s + eSm)) * (P.wvg j d * P.g d) : ℝ) : EReal) := by
  pointwise [k1_pay13]
  simp only [hpx, inv_at ht, hwv, hmf_at, coe_mul', coe_sum]
  exact congrArg _ (sum_oh_head j fun h => ∑ d, (∑ s, X s d * (P.ew X h s * aa (X s) P.g P.b)) * (1 / (∑ s, P.ew X h s + eSm)) * (P.wvg j d * P.g d))
omit hpx hwv in
theorem sel_row (k : Fin 8) (x : Fin 1024) : (∑ h : Fin 16, t (ix2 k ⟨h.val, by omega⟩) * k1_pay11 (F := Ideal) t (ix2 0 h) * ((oh h.val x : ℝ) : EReal))
    = (((∑ s, coef P (X s) k.val * P.ew X (hd x) s) * (1 / (∑ s, P.ew X (hd x) s + eSm)) : ℝ) : EReal) := by
  simp only [ht, inv_at ht, coe_mul', coe_sum]
  exact congrArg _ (sum_oh_head x fun h => (∑ s, coef P (X s) k.val * P.ew X h s) * (1 / (∑ s, P.ew X h s + eSm)))
omit ht hpx hwv in
/-- The pooled value out of its five folded parts. -/
theorem pooled_eq (x : Fin 1024) :
    ((∑ d, (∑ s, X s d * (P.ew X (hd x) s * aa (X s) P.g P.b)) * (1 / (∑ s, P.ew X (hd x) s + eSm)) * (P.wvg x d * P.g d) : ℝ) : EReal)
      + (((∑ s, coef P (X s) 0 * P.ew X (hd x) s) * (1 / (∑ s, P.ew X (hd x) s + eSm)) : ℝ) : EReal) * ((P.vr1 x : ℝ) : EReal)
      - (((∑ s, coef P (X s) 1 * P.ew X (hd x) s) * (1 / (∑ s, P.ew X (hd x) s + eSm)) : ℝ) : EReal) * ((P.vr2 x : ℝ) : EReal)
      - (((∑ s, coef P (X s) 2 * P.ew X (hd x) s) * (1 / (∑ s, P.ew X (hd x) s + eSm)) : ℝ) : EReal) * ((P.vr3 x : ℝ) : EReal)
      + (((∑ s, coef P (X s) 4 * P.ew X (hd x) s) * (1 / (∑ s, P.ew X (hd x) s + eSm)) : ℝ) : EReal) * (∑ d, vb d * ((P.Wv x d : ℝ) : EReal) + bw x)
      = P.pooledE X (shE vb P.Wv bw) x := by
  simp only [coe_mul', coe_add', coe_sub']
  have e4 : ∀ s, coef P (X s) 4 * P.ew X (hd x) s = P.ew X (hd x) s := fun s => one_mul _
  have ht : (∑ s, P.ew X (hd x) s) * (1 / (∑ s, P.ew X (hd x) s + eSm)) = P.tot X (hd x) := by
    rw [Finset.sum_mul]; exact Finset.sum_congr rfl fun s _ => by unfold Par.wt; ring
  simp only [e4, ht]
  refine congrArg (· + _) (congrArg _ (Eq.trans ?_ ((P.merged_eq X (fun s => P.ew X (hd x) s) (1 / (∑ s, P.ew X (hd x) s + eSm)) x).trans ?_)))
  · rfl
  · exact Finset.sum_congr rfl fun s _ => by unfold Par.wt; ring
include hv0 hv1 hv2 hv3 hbv
theorem p14_at (j : Fin 1024) : k1_pay14 t (k1_pay10 t) (k1_pay11 t) (k1_pay12 (F := Ideal)) (k1_pay13 t px wv) vr bv Wo bo (ix2 0 j)
    = projE (P.pooledE X (shE vb P.Wv bw)) (fun i k => Wo (ix2 i k)) (fun i => bo (ix2 0 i)) j
      - meanE (projE (P.pooledE X (shE vb P.Wv bw)) (fun i k => Wo (ix2 i k)) (fun i => bo (ix2 0 i))) := by
  pointwise [k1_pay14, k1_pay10]
  have s0 := fun x => sel_row ht 0 x
  have s1 := fun x => sel_row ht 1 x
  have s2 := fun x => sel_row ht 2 x
  have s4 := fun x => sel_row ht 4 x
  simp only [p13_at ht hpx hwv, hmf_at, hv0, hv1, hv2, hv3, hbv, s0, s1, s2, s4, lit_1024]
  have hp := pooled_eq (P := P) (X := X) (vb := vb) (bw := bw)
  simp only [Fin.val_zero, Fin.val_one, Fin.val_two, show (4 : Fin 8).val = 4 from rfl, hp]
  rfl
theorem p15_at : k1_pay15 t (k1_pay10 t) (k1_pay11 t) (k1_pay12 (F := Ideal)) (k1_pay13 t px wv) vr bv Wo bo (ix2 0 0)
    = ∑ j, (projE (P.pooledE X (shE vb P.Wv bw)) (fun i k => Wo (ix2 i k)) (fun i => bo (ix2 0 i)) j
      - meanE (projE (P.pooledE X (shE vb P.Wv bw)) (fun i k => Wo (ix2 i k)) (fun i => bo (ix2 0 i))))
     * (projE (P.pooledE X (shE vb P.Wv bw)) (fun i k => Wo (ix2 i k)) (fun i => bo (ix2 0 i)) j
      - meanE (projE (P.pooledE X (shE vb P.Wv bw)) (fun i k => Wo (ix2 i k)) (fun i => bo (ix2 0 i)))) := by
  pointwise [k1_pay15]
  simp only [p14_at ht hpx hwv hv0 hv1 hv2 hv3 hbv]
theorem p9_at (j : Fin 1024) : k1_pay9 (k1_pay14 t (k1_pay10 t) (k1_pay11 t) (k1_pay12 (F := Ideal)) (k1_pay13 t px wv) vr bv Wo bo) (k1_pay15 t (k1_pay10 t) (k1_pay11 t) (k1_pay12 (F := Ideal)) (k1_pay13 t px wv) vr bv Wo bo) (Scalar.ofBits FTy.f32 0x44800000#32) og ob (ix3 0 0 j)
    = lnE (projE (P.pooledE X (shE vb P.Wv bw)) (fun i k => Wo (ix2 i k)) (fun i => bo (ix2 0 i))) (fun i => og (ix2 0 i)) (fun i => ob (ix2 0 i)) j := by
  pointwise [k1_pay9]
  rw [p14_at ht hpx hwv hv0 hv1 hv2 hv3 hbv, p15_at ht hpx hwv hv0 hv1 hv2 hv3 hbv, lit_eLn, lit_1024]
  rfl
end Out
end Cert.KernelIdeal.Val
-- ==== Proof.Value.Blocks.lean ====
module
public import proofs.«01_k».proof.Proof.Value.Pay2
public import proofs.«01_k».proof.Proof.KernelIdeal.Run
public import Idealize.ShloMosaic.Lib.Pipeline.ValueKit
public import Idealize.ShloMosaic.Lib.Claim
/-! The arrays the first call leaves, and the arrays both calls read, in terms of the arguments. -/
@[expose] public section
set_option maxRecDepth 16384
noncomputable section
namespace Cert.KernelIdeal.Val
open Cert.KernelIdeal Cert.KernelIdeal.Gen Cert.KernelIdeal.Hand Cert.Pool Idealize.ShloMosaic Idealize.ShloMosaic.TcCoe Idealize.ShloMosaic.Tactic Idealize.SL.Sem

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] := (by decide +kernel : ∀ t : Fin grid0.N, _)

section First
variable (V : (c : Dev nD) → (b : Ref sig .tc) → Buf (Elt Ideal) ((c : Thread nD τ).loc b)) (c : Dev nD)
theorem blk0_0 : iblk0 V c 0 t0_0 = V c main_v0 := by blk_ext! [iblk0, idx0 t0_0]
theorem blk0_1 : iblk0 V c 1 t0_0 = V c main_v1 := by blk_ext! [iblk0, idx0 t0_0]
theorem blk0_2 : iblk0 V c 2 t0_0 = V c main_v2 := by blk_ext! [iblk0, idx0 t0_0]
theorem blk0_3 : iblk0 V c 3 t0_0 = V c main_arg12 := by blk_ext! [iblk0, idx0 t0_0]
theorem blk0_4 : iblk0 V c 4 t0_0 = V c main_v3 := by blk_ext! [iblk0, idx0 t0_0]
theorem blk0_5 : iblk0 V c 5 t0_0 = V c main_arg14 := by blk_ext! [iblk0, idx0 t0_0]
theorem blk0_6 : iblk0 V c 6 t0_0 = V c main_v4 := by blk_ext! [iblk0, idx0 t0_0]
theorem blk0_7 : iblk0 V c 7 t0_0 = V c main_v5 := by blk_ext! [iblk0, idx0 t0_0]
theorem blk0_8 : iblk0 V c 8 t0_0 = V c main_v6 := by blk_ext! [iblk0, idx0 t0_0]
theorem blk0_9 : iblk0 V c 9 t0_0 = V c main_arg16 := by blk_ext! [iblk0, idx0 t0_0]
theorem blk0_10 : iblk0 V c 10 t0_0 = V c main_v7 := by blk_ext! [iblk0, idx0 t0_0]
theorem blk0_11 : iblk0 V c 11 t0_0 = V c main_v8 := by blk_ext! [iblk0, idx0 t0_0]
theorem blk0_12 : iblk0 V c 12 t0_0 = V c main_v9 := by blk_ext! [iblk0, idx0 t0_0]
theorem blk0_13 : iblk0 V c 13 t0_0 = V c main_v10 := by blk_ext! [iblk0, idx0 t0_0]
theorem fin0_14 : (dat0 V c).arrAt 14 cfg0.N = out0_14 (V c main_v0) (V c main_v1) (V c main_v2) (V c main_arg12) (V c main_v3) (V c main_arg14) (V c main_v4) (V c main_v5) (V c main_v6) (V c main_arg16) (V c main_v7) (V c main_v8) (V c main_v9) (V c main_v10) := by
  refine (dat0 V c).arrAt_eq_of_after_last 14 t0_0 (by decide +kernel) _ fun j => ?_
  blk_simp [idx0 t0_0]
  rw [after0_14, blk0_0, blk0_1, blk0_2, blk0_3, blk0_4, blk0_5, blk0_6, blk0_7, blk0_8, blk0_9, blk0_10, blk0_11, blk0_12, blk0_13]
theorem fin0_15 : (dat0 V c).arrAt 15 cfg0.N = out0_15 (V c main_v0) (V c main_v1) (V c main_v2) (V c main_arg12) (V c main_v3) (V c main_arg14) (V c main_v4) (V c main_v5) (V c main_v6) (V c main_arg16) (V c main_v7) (V c main_v8) (V c main_v9) (V c main_v10) := by
  refine (dat0 V c).arrAt_eq_of_after_last 15 t0_0 (by decide +kernel) _ fun j => ?_
  blk_simp [idx0 t0_0]
  rw [after0_15, blk0_0, blk0_1, blk0_2, blk0_3, blk0_4, blk0_5, blk0_6, blk0_7, blk0_8, blk0_9, blk0_10, blk0_11, blk0_12, blk0_13]
theorem fin0_16 : (dat0 V c).arrAt 16 cfg0.N = out0_16 (V c main_v0) (V c main_v1) (V c main_v2) (V c main_arg12) (V c main_v3) (V c main_arg14) (V c main_v4) (V c main_v5) (V c main_v6) (V c main_arg16) (V c main_v7) (V c main_v8) (V c main_v9) (V c main_v10) := by
  refine (dat0 V c).arrAt_eq_of_after_last 16 t0_0 (by decide +kernel) _ fun j => ?_
  blk_simp [idx0 t0_0]
  rw [after0_16, blk0_0, blk0_1, blk0_2, blk0_3, blk0_4, blk0_5, blk0_6, blk0_7, blk0_8, blk0_9, blk0_10, blk0_11, blk0_12, blk0_13]
theorem fin0_17 : (dat0 V c).arrAt 17 cfg0.N = out0_17 (V c main_v0) (V c main_v1) (V c main_v2) (V c main_arg12) (V c main_v3) (V c main_arg14) (V c main_v4) (V c main_v5) (V c main_v6) (V c main_arg16) (V c main_v7) (V c main_v8) (V c main_v9) (V c main_v10) := by
  refine (dat0 V c).arrAt_eq_of_after_last 17 t0_0 (by decide +kernel) _ fun j => ?_
  blk_simp [idx0 t0_0]
  rw [after0_17, blk0_0, blk0_1, blk0_2, blk0_3, blk0_4, blk0_5, blk0_6, blk0_7, blk0_8, blk0_9, blk0_10, blk0_11, blk0_12, blk0_13]
theorem fin0_18 : (dat0 V c).arrAt 18 cfg0.N = out0_18 (V c main_v0) (V c main_v1) (V c main_v2) (V c main_arg12) (V c main_v3) (V c main_arg14) (V c main_v4) (V c main_v5) (V c main_v6) (V c main_arg16) (V c main_v7) (V c main_v8) (V c main_v9) (V c main_v10) := by
  refine (dat0 V c).arrAt_eq_of_after_last 18 t0_0 (by decide +kernel) _ fun j => ?_
  blk_simp [idx0 t0_0]
  rw [after0_18, blk0_0, blk0_1, blk0_2, blk0_3, blk0_4, blk0_5, blk0_6, blk0_7, blk0_8, blk0_9, blk0_10, blk0_11, blk0_12, blk0_13]
end First
end Cert.KernelIdeal.Val
-- ==== Proof.Value.Entry.lean ====
module
public import proofs.«01_k».proof.Proof.Value.Blocks
/-! What both calls read, entry by entry, in terms of the arguments. -/
@[expose] public section
set_option maxRecDepth 16384
noncomputable section
namespace Cert.KernelIdeal.Val
open Cert.KernelIdeal Cert.KernelIdeal.Gen Cert.KernelIdeal.Hand Cert.Pool Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

theorem V1_main_v0 (j : Fin 1024) : (V1 m ρ c main_v0 : Vec Ideal S1x1024 .f32) (ix2 0 j) = (m ((c : Thread nD τ).loc main_arg1) : Vec Ideal S1x1x1024 .f32) (ix3 0 0 j) := by
  unfold V1 W1
  entry_read
  pointwise
theorem V1_main_v1 (j : Fin 1024) : (V1 m ρ c main_v1 : Vec Ideal S1x1024 .f32) (ix2 0 j) = (m ((c : Thread nD τ).loc main_arg4) : Vec Ideal S1024 .f32) (ix1 j) := by
  unfold V1 W1
  entry_read
  pointwise
theorem V1_main_v2 (j : Fin 1024) : (V1 m ρ c main_v2 : Vec Ideal S1x1024 .f32) (ix2 0 j) = (m ((c : Thread nD τ).loc main_arg5) : Vec Ideal S1024 .f32) (ix1 j) := by
  unfold V1 W1
  entry_read
  pointwise
theorem V1_main_v3 (j : Fin 1024) : (V1 m ρ c main_v3 : Vec Ideal S1x1024 .f32) (ix2 0 j) = (m ((c : Thread nD τ).loc main_arg13) : Vec Ideal S1024 .f32) (ix1 j) := by
  unfold V1 W1
  entry_read
  pointwise
theorem V1_main_v4 (j : Fin 1024) : (V1 m ρ c main_v4 : Vec Ideal S1x1024 .f32) (ix2 0 j) = (m ((c : Thread nD τ).loc main_arg15) : Vec Ideal S1024 .f32) (ix1 j) := by
  unfold V1 W1
  entry_read
  pointwise
theorem V1_main_v5 (j : Fin 1024) : (V1 m ρ c main_v5 : Vec Ideal S1x1024 .f32) (ix2 0 j) = (m ((c : Thread nD τ).loc main_arg6) : Vec Ideal S1024 .f32) (ix1 j) := by
  unfold V1 W1
  entry_read
  pointwise
theorem V1_main_v6 (j : Fin 1024) : (V1 m ρ c main_v6 : Vec Ideal S1x1024 .f32) (ix2 0 j) = (m ((c : Thread nD τ).loc main_arg7) : Vec Ideal S1024 .f32) (ix1 j) := by
  unfold V1 W1
  entry_read
  pointwise
theorem V1_main_v7 (j : Fin 1024) : (V1 m ρ c main_v7 : Vec Ideal S1x1024 .f32) (ix2 0 j) = (m ((c : Thread nD τ).loc main_arg8) : Vec Ideal S1024 .f32) (ix1 j) := by
  unfold V1 W1
  entry_read
  pointwise
theorem V1_main_v8 (j : Fin 1024) : (V1 m ρ c main_v8 : Vec Ideal S1x1024 .f32) (ix2 0 j) = (m ((c : Thread nD τ).loc main_arg9) : Vec Ideal S1024 .f32) (ix1 j) := by
  unfold V1 W1
  entry_read
  pointwise
theorem V1_main_v9 (j : Fin 1024) : (V1 m ρ c main_v9 : Vec Ideal S1x1024 .f32) (ix2 0 j) = (m ((c : Thread nD τ).loc main_arg2) : Vec Ideal S1024 .f32) (ix1 j) := by
  unfold V1 W1
  entry_read
  pointwise
theorem V1_main_v10 (j : Fin 1024) : (V1 m ρ c main_v10 : Vec Ideal S1x1024 .f32) (ix2 0 j) = (m ((c : Thread nD τ).loc main_arg3) : Vec Ideal S1024 .f32) (ix1 j) := by
  unfold V1 W1
  entry_read
  pointwise
theorem V3_main_v12 (j : Fin 1024) : (V3 m ρ c main_v12 : Vec Ideal S1x1024 .f32) (ix2 0 j) = (m ((c : Thread nD τ).loc main_arg17) : Vec Ideal S1024 .f32) (ix1 j) := by
  have h : W2 m ρ c (Proc.devRef .tc main_arg17) = m ((c : Thread nD τ).loc main_arg17) := W2_args m ρ c main_arg17 (by decide)
  unfold V3 W3
  entry_read
  rw [h]
  pointwise
theorem V3_main_v13 (j : Fin 1024) : (V3 m ρ c main_v13 : Vec Ideal S1x1024 .f32) (ix2 0 j) = (m ((c : Thread nD τ).loc main_arg19) : Vec Ideal S1024 .f32) (ix1 j) := by
  have h : W2 m ρ c (Proc.devRef .tc main_arg19) = m ((c : Thread nD τ).loc main_arg19) := W2_args m ρ c main_arg19 (by decide)
  unfold V3 W3
  entry_read
  rw [h]
  pointwise
theorem V3_main_v14 (j : Fin 1024) : (V3 m ρ c main_v14 : Vec Ideal S1x1024 .f32) (ix2 0 j) = (m ((c : Thread nD τ).loc main_arg10) : Vec Ideal S1024 .f32) (ix1 j) := by
  have h : W2 m ρ c (Proc.devRef .tc main_arg10) = m ((c : Thread nD τ).loc main_arg10) := W2_args m ρ c main_arg10 (by decide)
  unfold V3 W3
  entry_read
  rw [h]
  pointwise
theorem V3_main_v15 (j : Fin 1024) : (V3 m ρ c main_v15 : Vec Ideal S1x1024 .f32) (ix2 0 j) = (m ((c : Thread nD τ).loc main_arg11) : Vec Ideal S1024 .f32) (ix1 j) := by
  have h : W2 m ρ c (Proc.devRef .tc main_arg11) = m ((c : Thread nD τ).loc main_arg11) := W2_args m ρ c main_arg11 (by decide)
  unfold V3 W3
  entry_read
  rw [h]
  pointwise
theorem V1_main_arg12 : V1 m ρ c main_arg12 = m ((c : Thread nD τ).loc main_arg12) := W1_args m ρ c main_arg12 (by decide)
theorem V1_main_arg14 : V1 m ρ c main_arg14 = m ((c : Thread nD τ).loc main_arg14) := W1_args m ρ c main_arg14 (by decide)
theorem V1_main_arg16 : V1 m ρ c main_arg16 = m ((c : Thread nD τ).loc main_arg16) := W1_args m ρ c main_arg16 (by decide)
theorem V3_main_arg0 : V3 m ρ c main_arg0 = m ((c : Thread nD τ).loc main_arg0) := W3_args m ρ c main_arg0 (by decide)
theorem V3_main_arg18 : V3 m ρ c main_arg18 = m ((c : Thread nD τ).loc main_arg18) := W3_args m ρ c main_arg18 (by decide)
theorem V3_main_v11_0 : V3 m ρ c main_v11_0 = (dat0 (V1 m ρ) c).arrAt 14 cfg0.N :=
  (W3_of m ρ c main_v11_0 (by decide)).trans (W2_arr m ρ c 14)
theorem V3_main_v11_1 : V3 m ρ c main_v11_1 = (dat0 (V1 m ρ) c).arrAt 15 cfg0.N :=
  (W3_of m ρ c main_v11_1 (by decide)).trans (W2_arr m ρ c 15)
theorem V3_main_v11_2 : V3 m ρ c main_v11_2 = (dat0 (V1 m ρ) c).arrAt 16 cfg0.N :=
  (W3_of m ρ c main_v11_2 (by decide)).trans (W2_arr m ρ c 16)
theorem V3_main_v11_3 : V3 m ρ c main_v11_3 = (dat0 (V1 m ρ) c).arrAt 17 cfg0.N :=
  (W3_of m ρ c main_v11_3 (by decide)).trans (W2_arr m ρ c 17)
theorem V3_main_v11_4 : V3 m ρ c main_v11_4 = (dat0 (V1 m ρ) c).arrAt 18 cfg0.N :=
  (W3_of m ρ c main_v11_4 (by decide)).trans (W2_arr m ρ c 18)
end Cert.KernelIdeal.Val
-- ==== Proof.Value.Points.lean ====
module
public import proofs.«01_k».proof.Proof.Value.Entry
/-! What the second call's grid points leave, as the running sums over their two blocks. -/
@[expose] public section
set_option maxRecDepth 16384
noncomputable section
namespace Cert.KernelIdeal.Val
open Cert.KernelIdeal Cert.KernelIdeal.Gen Cert.KernelIdeal.Hand Cert.Pool Idealize.ShloMosaic Idealize.ShloMosaic.TcCoe Idealize.ShloMosaic.Tactic Idealize.SL.Sem

section Block
variable (xb : Vec Ideal S1x4096x1024 .f32) (w : Vec Ideal S1024x256 .bf16) (bp : Vec Ideal S1x128 .f32) (cr : Vec Ideal S8x128 .f32)
/-- A block's coefficients, its scores and their column maxima, as the body computes them. -/
abbrev cfB : Vec Ideal S8x4096 .f32 := k1_pay34 (k1_pay24 xb w) (k1_pay25 xb w) (k1_pay27 cr) (k1_pay28 cr) (k1_pay29 cr) (k1_pay30 xb w) (k1_pay31 xb w cr) (k1_pay32 xb w) (k1_pay33 xb w)
abbrev afB : Vec Ideal S4096x128 .f32 := k1_pay35 (k1_pay24 xb w) (k1_pay25 xb w) (k1_pay27 cr) (k1_pay28 cr) (k1_pay29 cr) (k1_pay30 xb w) (k1_pay31 xb w cr) (k1_pay32 xb w) (k1_pay33 xb w)
abbrev scB : Vec Ideal S4096x128 .f32 := k1_pay36 (k1_pay21 xb w) (k1_pay24 xb w) (k1_pay25 xb w) (k1_pay26 cr) (k1_pay27 cr) (k1_pay28 cr) (k1_pay29 cr) (k1_pay30 xb w) (k1_pay31 xb w cr) (k1_pay32 xb w) (k1_pay33 xb w) bp
abbrev cmB : Vec Ideal S1x128 .f32 := k1_pay37 (k1_pay21 xb w) (k1_pay24 xb w) (k1_pay25 xb w) (k1_pay26 cr) (k1_pay27 cr) (k1_pay28 cr) (k1_pay29 cr) (k1_pay30 xb w) (k1_pay31 xb w cr) (k1_pay32 xb w) (k1_pay33 xb w) bp
end Block

/-- The output row as the body computes it from the finished sums. -/
abbrev rowB (t : Vec Ideal S8x128 .f32) (px : Vec Ideal S1024x128 .f32) (wv : Vec Ideal S1024x1024 .bf16) (vr : Vec Ideal S8x1024 .f32)
    (bv : Vec Ideal S1x1024 .f32) (Wo : Vec Ideal S1024x1024 .f32) (bo og ob : Vec Ideal S1x1024 .f32) : Vec Ideal S1x1x1024 .f32 :=
  k1_pay9 (k1_pay14 t (k1_pay10 t) (k1_pay11 t) (k1_pay12 (F := Ideal)) (k1_pay13 t px wv) vr bv Wo bo) (k1_pay15 t (k1_pay10 t) (k1_pay11 t) (k1_pay12 (F := Ideal)) (k1_pay13 t px wv) vr bv Wo bo) (Scalar.ofBits FTy.f32 0x44800000#32) og ob

variable (V : (c : Dev nD) → (b : Ref sig .tc) → Buf (Elt Ideal) ((c : Thread nD τ).loc b)) (c : Dev nD)

theorem m_A (t : Fin cfg1.N) (h0 : t.val % 2 = 0) (h1 : ¬t.val % 2 = 1) : (outsAt1 V c t.val t.isLt).2.1
    = k1_pay6 (F := Ideal) (cmB (iblk1 V c 0 t) (iblk1 V c 1 t) (iblk1 V c 2 t) (iblk1 V c 3 t)) (k1_pay16 (F := Ideal)) := by
  rw [outsAt1_A V c t h0 h1]
  frame_out
theorem t_A (t : Fin cfg1.N) (h0 : t.val % 2 = 0) (h1 : ¬t.val % 2 = 1) : (outsAt1 V c t.val t.isLt).2.2.1
    = k1_pay7 (F := Ideal) (cfB (iblk1 V c 0 t) (iblk1 V c 1 t) (iblk1 V c 3 t)) (scB (iblk1 V c 0 t) (iblk1 V c 1 t) (iblk1 V c 2 t) (iblk1 V c 3 t)) (cmB (iblk1 V c 0 t) (iblk1 V c 1 t) (iblk1 V c 2 t) (iblk1 V c 3 t)) (k1_pay16 (F := Ideal)) (k1_pay17 (F := Ideal)) := by
  rw [outsAt1_A V c t h0 h1]
  frame_out
theorem p_A (t : Fin cfg1.N) (h0 : t.val % 2 = 0) (h1 : ¬t.val % 2 = 1) : (outsAt1 V c t.val t.isLt).2.2.2
    = k1_pay8 (F := Ideal) (k1_pay19 (iblk1 V c 0 t)) (afB (iblk1 V c 0 t) (iblk1 V c 1 t) (iblk1 V c 3 t)) (scB (iblk1 V c 0 t) (iblk1 V c 1 t) (iblk1 V c 2 t) (iblk1 V c 3 t)) (cmB (iblk1 V c 0 t) (iblk1 V c 1 t) (iblk1 V c 2 t) (iblk1 V c 3 t)) (k1_pay16 (F := Ideal)) (k1_pay18 (F := Ideal)) := by
  rw [outsAt1_A V c t h0 h1]
  frame_out
theorem o_B (t : Fin cfg1.N) (h0 : ¬t.val % 2 = 0) (h1 : t.val % 2 = 1) (hp : t.val - 1 < cfg1.N) : (outsAt1 V c t.val t.isLt).1
    = rowB (k1_pay4 (F := Ideal) (cfB (iblk1 V c 0 t) (iblk1 V c 1 t) (iblk1 V c 3 t)) (scB (iblk1 V c 0 t) (iblk1 V c 1 t) (iblk1 V c 2 t) (iblk1 V c 3 t)) (cmB (iblk1 V c 0 t) (iblk1 V c 1 t) (iblk1 V c 2 t) (iblk1 V c 3 t)) (outsAt1 V c (t.val - 1) hp).2.1 (outsAt1 V c (t.val - 1) hp).2.2.1)
        (k1_pay5 (F := Ideal) (k1_pay19 (iblk1 V c 0 t)) (afB (iblk1 V c 0 t) (iblk1 V c 1 t) (iblk1 V c 3 t)) (scB (iblk1 V c 0 t) (iblk1 V c 1 t) (iblk1 V c 2 t) (iblk1 V c 3 t)) (cmB (iblk1 V c 0 t) (iblk1 V c 1 t) (iblk1 V c 2 t) (iblk1 V c 3 t)) (outsAt1 V c (t.val - 1) hp).2.1 (outsAt1 V c (t.val - 1) hp).2.2.2)
        (iblk1 V c 4 t) (iblk1 V c 5 t) (iblk1 V c 6 t) (iblk1 V c 7 t) (iblk1 V c 8 t) (iblk1 V c 9 t) (iblk1 V c 10 t) := by
  have e0 : ∀ v : Vec Ideal S1x128 .f32, View.read (Elt Ideal) (View.whole cc1_scratch0) ((Memref.isWhole_whole cc1_scratch0).unread v) = v := fun v => (Memref.isWhole_whole cc1_scratch0).read_unread v
  have e1 : ∀ v : Vec Ideal S8x128 .f32, View.read (Elt Ideal) (View.whole cc1_scratch1) ((Memref.isWhole_whole cc1_scratch1).unread v) = v := fun v => (Memref.isWhole_whole cc1_scratch1).read_unread v
  have e2 : ∀ v : Vec Ideal S1024x128 .f32, View.read (Elt Ideal) (View.whole cc1_scratch2) ((Memref.isWhole_whole cc1_scratch2).unread v) = v := fun v => (Memref.isWhole_whole cc1_scratch2).read_unread v
  rw [outsAt1_B V c t h0 h1]
  frame_out
  rw [e0, e1, e2]
end Cert.KernelIdeal.Val
-- ==== Proof.Value.Final.lean ====
module
public import proofs.«01_k».proof.Proof.Value.Points
/-! The kernel's result array over real arguments. -/
@[expose] public section
set_option maxRecDepth 16384
noncomputable section
namespace Cert.KernelIdeal.Val
open Cert.KernelIdeal Cert.KernelIdeal.Gen Cert.KernelIdeal.Hand Cert.Pool Idealize.ShloMosaic Idealize.ShloMosaic.TcCoe Idealize.ShloMosaic.Tactic Idealize.SL.Sem

section Blocks1
variable (V : (c : Dev nD) → (b : Ref sig .tc) → Buf (Elt Ideal) ((c : Thread nD τ).loc b)) (c : Dev nD) (t : Fin cfg1.N)
theorem idx1 : ∀ t : Fin cfg1.N, win1_0.index t = ![t.val / 2, t.val % 2, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![t.val / 2, 0, 0] ∧ t.val < 16 :=
  (by decide +kernel : ∀ t : Fin grid1.N, _)
theorem blk1_1 : iblk1 V c 1 t = V c main_v11_0 := by blk_ext! [iblk1, idx1 t]
theorem blk1_2 : iblk1 V c 2 t = V c main_v11_1 := by blk_ext! [iblk1, idx1 t]
theorem blk1_3 : iblk1 V c 3 t = V c main_v11_2 := by blk_ext! [iblk1, idx1 t]
theorem blk1_4 : iblk1 V c 4 t = V c main_v11_3 := by blk_ext! [iblk1, idx1 t]
theorem blk1_5 : iblk1 V c 5 t = V c main_v11_4 := by blk_ext! [iblk1, idx1 t]
theorem blk1_6 : iblk1 V c 6 t = V c main_v12 := by blk_ext! [iblk1, idx1 t]
theorem blk1_7 : iblk1 V c 7 t = V c main_arg18 := by blk_ext! [iblk1, idx1 t]
theorem blk1_8 : iblk1 V c 8 t = V c main_v13 := by blk_ext! [iblk1, idx1 t]
theorem blk1_9 : iblk1 V c 9 t = V c main_v14 := by blk_ext! [iblk1, idx1 t]
theorem blk1_10 : iblk1 V c 10 t = V c main_v15 := by blk_ext! [iblk1, idx1 t]
theorem blk1_0 (b : Fin 8) (k : Fin 2) (ht : t.val = 2 * b.val + k.val) (r : Fin 4096) (d : Fin 1024) :
    (iblk1 V c 0 t : Vec Ideal S1x4096x1024 .f32) (ix3 0 r d) = (V c main_arg0 : Vec Ideal S8x8192x1024 .f32) (ix3 b ⟨4096 * k.val + r.val, by omega⟩ d) := by
  have hk : t.val / 2 = b.val ∧ t.val % 2 = k.val := by have := k.isLt; omega
  blk_ext [iblk1, idx1 t, hk]
end Blocks1

/-- An index of the output's block is its last coordinate. -/
theorem eta1 (y : S1x1x1024.Idx) : y = ix3 0 0 (y 2) := by
  funext k
  fin_cases k
  · exact Subsingleton.elim (α := Fin 1) _ _
  · exact Subsingleton.elim (α := Fin 1) _ _
  · rfl

/-- The arguments but for the output projection's: the layers' parameters and the rows are real, the query normalizes to a real row,
and the key's and the value's shift and bias are any rows. -/
structure Args (m : (ℓ : Loc nD τ sig) → Buf (Elt Ideal) ℓ) (c : Dev nD) (P : Par) (kb bk vb bv : Fin 1024 → EReal) (X : Fin 8 → Fin 8192 → Row) : Prop where
  x : ∀ b s d, (m ((c : Thread nD τ).loc main_arg0) : Vec Ideal S8x8192x1024 .f32) (ix3 b s d) = ((X b s d : ℝ) : EReal)
  q : ∀ j, nrmE (fun d => (m ((c : Thread nD τ).loc main_arg1) : Vec Ideal S1x1x1024 .f32) (ix3 0 0 d)) j = ((P.z j : ℝ) : EReal)
  bias : ∀ h : Fin 16, P.shS kb bk h = ((P.bias h.val : ℝ) : EReal)
  g : ∀ j, (m ((c : Thread nD τ).loc main_arg2) : Vec Ideal S1024 .f32) (ix1 j) = ((P.g j : ℝ) : EReal)
  b : ∀ j, (m ((c : Thread nD τ).loc main_arg3) : Vec Ideal S1024 .f32) (ix1 j) = ((P.b j : ℝ) : EReal)
  qg : ∀ j, (m ((c : Thread nD τ).loc main_arg4) : Vec Ideal S1024 .f32) (ix1 j) = ((P.qg j : ℝ) : EReal)
  qb : ∀ j, (m ((c : Thread nD τ).loc main_arg5) : Vec Ideal S1024 .f32) (ix1 j) = ((P.qb j : ℝ) : EReal)
  kg : ∀ j, (m ((c : Thread nD τ).loc main_arg6) : Vec Ideal S1024 .f32) (ix1 j) = ((P.kg j : ℝ) : EReal)
  kb : ∀ j, (m ((c : Thread nD τ).loc main_arg7) : Vec Ideal S1024 .f32) (ix1 j) = kb j
  vg : ∀ j, (m ((c : Thread nD τ).loc main_arg8) : Vec Ideal S1024 .f32) (ix1 j) = ((P.vg j : ℝ) : EReal)
  vb : ∀ j, (m ((c : Thread nD τ).loc main_arg9) : Vec Ideal S1024 .f32) (ix1 j) = vb j
  bq : ∀ j, (m ((c : Thread nD τ).loc main_arg13) : Vec Ideal S1024 .f32) (ix1 j) = ((P.bq j : ℝ) : EReal)
  bk : ∀ j, (m ((c : Thread nD τ).loc main_arg15) : Vec Ideal S1024 .f32) (ix1 j) = bk j
  bv : ∀ j, (m ((c : Thread nD τ).loc main_arg17) : Vec Ideal S1024 .f32) (ix1 j) = bv j
  Wq : ∀ i j, (m ((c : Thread nD τ).loc main_arg12) : Vec Ideal S1024x1024 .f32) (ix2 i j) = ((P.Wq i j : ℝ) : EReal)
  Wk : ∀ i j, (m ((c : Thread nD τ).loc main_arg14) : Vec Ideal S1024x1024 .f32) (ix2 i j) = ((P.Wk i j : ℝ) : EReal)
  Wv : ∀ i j, (m ((c : Thread nD τ).loc main_arg16) : Vec Ideal S1024x1024 .f32) (ix2 i j) = ((P.Wv i j : ℝ) : EReal)

variable {m : (ℓ : Loc nD τ sig) → Buf (Elt Ideal) ℓ} (ρ : Dev nD → PrngReg) {c : Dev nD} {P : Par} {kb bk vb bv : Fin 1024 → EReal} {X : Fin 8 → Fin 8192 → Row} (A : Args m c P kb bk vb bv X)
include A

theorem consts : Consts P (V3 m ρ c main_v11_0) (V3 m ρ c main_v11_1) (V3 m ρ c main_v11_2) := by
  have h0 : ∀ j, nrmE (fun d => (V1 m ρ c main_v0 : Vec Ideal S1x1024 .f32) (ix2 0 d)) j = ((P.z j : ℝ) : EReal) := fun j => (congrArg (fun f => nrmE f j) (funext fun d => V1_main_v0 m ρ c d)).trans (A.q j)
  have h1 : ∀ j, (V1 m ρ c main_v1 : Vec Ideal S1x1024 .f32) (ix2 0 j) = ((P.qg j : ℝ) : EReal) := fun j => (V1_main_v1 m ρ c j).trans (A.qg j)
  have h2 : ∀ j, (V1 m ρ c main_v2 : Vec Ideal S1x1024 .f32) (ix2 0 j) = ((P.qb j : ℝ) : EReal) := fun j => (V1_main_v2 m ρ c j).trans (A.qb j)
  have h3 : ∀ i j, (V1 m ρ c main_arg12 : Vec Ideal S1024x1024 .f32) (ix2 i j) = ((P.Wq i j : ℝ) : EReal) := fun i j => by rw [V1_main_arg12]; exact A.Wq i j
  have h4 : ∀ j, (V1 m ρ c main_v3 : Vec Ideal S1x1024 .f32) (ix2 0 j) = ((P.bq j : ℝ) : EReal) := fun j => (V1_main_v3 m ρ c j).trans (A.bq j)
  have h5 : ∀ i j, (V1 m ρ c main_arg14 : Vec Ideal S1024x1024 .f32) (ix2 i j) = ((P.Wk i j : ℝ) : EReal) := fun i j => by rw [V1_main_arg14]; exact A.Wk i j
  have h6 : ∀ j, (V1 m ρ c main_v4 : Vec Ideal S1x1024 .f32) (ix2 0 j) = bk j := fun j => (V1_main_v4 m ρ c j).trans (A.bk j)
  have h7 : ∀ j, (V1 m ρ c main_v5 : Vec Ideal S1x1024 .f32) (ix2 0 j) = ((P.kg j : ℝ) : EReal) := fun j => (V1_main_v5 m ρ c j).trans (A.kg j)
  have h8 : ∀ j, (V1 m ρ c main_v6 : Vec Ideal S1x1024 .f32) (ix2 0 j) = kb j := fun j => (V1_main_v6 m ρ c j).trans (A.kb j)
  have h9 : ∀ i j, (V1 m ρ c main_arg16 : Vec Ideal S1024x1024 .f32) (ix2 i j) = ((P.Wv i j : ℝ) : EReal) := fun i j => by rw [V1_main_arg16]; exact A.Wv i j
  have h10 : ∀ j, (V1 m ρ c main_v7 : Vec Ideal S1x1024 .f32) (ix2 0 j) = ((P.vg j : ℝ) : EReal) := fun j => (V1_main_v7 m ρ c j).trans (A.vg j)
  have h11 : ∀ j, (V1 m ρ c main_v8 : Vec Ideal S1x1024 .f32) (ix2 0 j) = vb j := fun j => (V1_main_v8 m ρ c j).trans (A.vb j)
  have h12 : ∀ j, (V1 m ρ c main_v9 : Vec Ideal S1x1024 .f32) (ix2 0 j) = ((P.g j : ℝ) : EReal) := fun j => (V1_main_v9 m ρ c j).trans (A.g j)
  have h13 : ∀ j, (V1 m ρ c main_v10 : Vec Ideal S1x1024 .f32) (ix2 0 j) = ((P.b j : ℝ) : EReal) := fun j => (V1_main_v10 m ρ c j).trans (A.b j)
  have c0 := crows_at P (V1 m ρ c main_v0) (V1 m ρ c main_v1) (V1 m ρ c main_v2) (V1 m ρ c main_v3) (V1 m ρ c main_v4) (V1 m ρ c main_v5) (V1 m ρ c main_v6) (V1 m ρ c main_v7) (V1 m ρ c main_v8) (V1 m ρ c main_v9) (V1 m ρ c main_v10) (V1 m ρ c main_arg12) (V1 m ρ c main_arg14) (V1 m ρ c main_arg16) h0 h1 h2 h4 h7 h12 h13 h3 h5
  have m0 := mrow_at P (V1 m ρ c main_v0) (V1 m ρ c main_v1) (V1 m ρ c main_v2) (V1 m ρ c main_v3) (V1 m ρ c main_v4) (V1 m ρ c main_v5) (V1 m ρ c main_v6) (V1 m ρ c main_v7) (V1 m ρ c main_v8) (V1 m ρ c main_v9) (V1 m ρ c main_v10) (V1 m ρ c main_arg12) (V1 m ρ c main_arg14) (V1 m ρ c main_arg16) h12 h13
  rw [← fin0_16 (V1 m ρ) c, ← V3_main_v11_2] at m0
  have w0 := wall_at P (V1 m ρ c main_v0) (V1 m ρ c main_v1) (V1 m ρ c main_v2) (V1 m ρ c main_v3) (V1 m ρ c main_v4) (V1 m ρ c main_v5) (V1 m ρ c main_v6) (V1 m ρ c main_v7) (V1 m ρ c main_v8) (V1 m ρ c main_v9) (V1 m ρ c main_v10) (V1 m ρ c main_arg12) (V1 m ρ c main_arg14) (V1 m ρ c main_arg16) h0 h1 h2 h4 h7 h12 h13 h3 h5
  have s0 := stat_at P (V1 m ρ c main_v0) (V1 m ρ c main_v1) (V1 m ρ c main_v2) (V1 m ρ c main_v3) (V1 m ρ c main_v4) (V1 m ρ c main_v5) (V1 m ρ c main_v6) (V1 m ρ c main_v7) (V1 m ρ c main_v8) (V1 m ρ c main_v9) (V1 m ρ c main_v10) (V1 m ρ c main_arg12) (V1 m ρ c main_arg14) (V1 m ρ c main_arg16) h12 h13
  have b0 := biasp_at P (V1 m ρ c main_v0) (V1 m ρ c main_v1) (V1 m ρ c main_v2) (V1 m ρ c main_v3) (V1 m ρ c main_v4) (V1 m ρ c main_v5) (V1 m ρ c main_v6) (V1 m ρ c main_v7) (V1 m ρ c main_v8) (V1 m ρ c main_v9) (V1 m ρ c main_v10) (V1 m ρ c main_arg12) (V1 m ρ c main_arg14) (V1 m ρ c main_arg16) h0 h1 h2 h4 h6 h8 h3 h5
  rw [V3_main_v11_0, V3_main_v11_1, fin0_14, fin0_15]
  exact { wall := fun d h => w0 d ⟨h.val, by omega⟩, stat := s0, bias := fun h => b0 h (A.bias h), m0 := m0.1, m1 := m0.2.1, m2 := m0.2.2.1, m3 := m0.2.2.2.1, m4 := m0.2.2.2.2,
           c0 := fun h => by rw [V3_main_v11_2, fin0_16]; exact (c0 ⟨h.val, by omega⟩).1,
           c1 := fun h => by rw [V3_main_v11_2, fin0_16]; exact (c0 ⟨h.val, by omega⟩).2.1,
           c2 := fun h => by rw [V3_main_v11_2, fin0_16]; exact (c0 ⟨h.val, by omega⟩).2.2 }
theorem wvgg_V3 (i d : Fin 1024) : (V3 m ρ c main_v11_3 : Vec Ideal S1024x1024 .bf16) (ix2 i d) = ((P.wvg i d * P.g d : ℝ) : EReal) := by
  have h0 : ∀ j, nrmE (fun d => (V1 m ρ c main_v0 : Vec Ideal S1x1024 .f32) (ix2 0 d)) j = ((P.z j : ℝ) : EReal) := fun j => (congrArg (fun f => nrmE f j) (funext fun d => V1_main_v0 m ρ c d)).trans (A.q j)
  have h1 : ∀ j, (V1 m ρ c main_v1 : Vec Ideal S1x1024 .f32) (ix2 0 j) = ((P.qg j : ℝ) : EReal) := fun j => (V1_main_v1 m ρ c j).trans (A.qg j)
  have h2 : ∀ j, (V1 m ρ c main_v2 : Vec Ideal S1x1024 .f32) (ix2 0 j) = ((P.qb j : ℝ) : EReal) := fun j => (V1_main_v2 m ρ c j).trans (A.qb j)
  have h3 : ∀ i j, (V1 m ρ c main_arg12 : Vec Ideal S1024x1024 .f32) (ix2 i j) = ((P.Wq i j : ℝ) : EReal) := fun i j => by rw [V1_main_arg12]; exact A.Wq i j
  have h4 : ∀ j, (V1 m ρ c main_v3 : Vec Ideal S1x1024 .f32) (ix2 0 j) = ((P.bq j : ℝ) : EReal) := fun j => (V1_main_v3 m ρ c j).trans (A.bq j)
  have h5 : ∀ i j, (V1 m ρ c main_arg14 : Vec Ideal S1024x1024 .f32) (ix2 i j) = ((P.Wk i j : ℝ) : EReal) := fun i j => by rw [V1_main_arg14]; exact A.Wk i j
  have h6 : ∀ j, (V1 m ρ c main_v4 : Vec Ideal S1x1024 .f32) (ix2 0 j) = bk j := fun j => (V1_main_v4 m ρ c j).trans (A.bk j)
  have h7 : ∀ j, (V1 m ρ c main_v5 : Vec Ideal S1x1024 .f32) (ix2 0 j) = ((P.kg j : ℝ) : EReal) := fun j => (V1_main_v5 m ρ c j).trans (A.kg j)
  have h8 : ∀ j, (V1 m ρ c main_v6 : Vec Ideal S1x1024 .f32) (ix2 0 j) = kb j := fun j => (V1_main_v6 m ρ c j).trans (A.kb j)
  have h9 : ∀ i j, (V1 m ρ c main_arg16 : Vec Ideal S1024x1024 .f32) (ix2 i j) = ((P.Wv i j : ℝ) : EReal) := fun i j => by rw [V1_main_arg16]; exact A.Wv i j
  have h10 : ∀ j, (V1 m ρ c main_v7 : Vec Ideal S1x1024 .f32) (ix2 0 j) = ((P.vg j : ℝ) : EReal) := fun j => (V1_main_v7 m ρ c j).trans (A.vg j)
  have h11 : ∀ j, (V1 m ρ c main_v8 : Vec Ideal S1x1024 .f32) (ix2 0 j) = vb j := fun j => (V1_main_v8 m ρ c j).trans (A.vb j)
  have h12 : ∀ j, (V1 m ρ c main_v9 : Vec Ideal S1x1024 .f32) (ix2 0 j) = ((P.g j : ℝ) : EReal) := fun j => (V1_main_v9 m ρ c j).trans (A.g j)
  have h13 : ∀ j, (V1 m ρ c main_v10 : Vec Ideal S1x1024 .f32) (ix2 0 j) = ((P.b j : ℝ) : EReal) := fun j => (V1_main_v10 m ρ c j).trans (A.b j)
  rw [V3_main_v11_3, fin0_17]
  exact wvgg_at P (V1 m ρ c main_v0) (V1 m ρ c main_v1) (V1 m ρ c main_v2) (V1 m ρ c main_v3) (V1 m ρ c main_v4) (V1 m ρ c main_v5) (V1 m ρ c main_v6) (V1 m ρ c main_v7) (V1 m ρ c main_v8) (V1 m ρ c main_v9) (V1 m ρ c main_v10) (V1 m ρ c main_arg12) (V1 m ρ c main_arg14) (V1 m ρ c main_arg16) h10 h12 h9 i d
theorem vrows_V3 (j : Fin 1024) : (V3 m ρ c main_v11_4 : Vec Ideal S8x1024 .f32) (ix2 0 j) = (∑ d, vb d * ((P.Wv j d : ℝ) : EReal)) ∧ (V3 m ρ c main_v11_4 : Vec Ideal S8x1024 .f32) (ix2 1 j) = ((P.vr1 j : ℝ) : EReal)
    ∧ (V3 m ρ c main_v11_4 : Vec Ideal S8x1024 .f32) (ix2 2 j) = ((P.vr2 j : ℝ) : EReal) ∧ (V3 m ρ c main_v11_4 : Vec Ideal S8x1024 .f32) (ix2 3 j) = ((P.vr3 j : ℝ) : EReal) := by
  have h0 : ∀ j, nrmE (fun d => (V1 m ρ c main_v0 : Vec Ideal S1x1024 .f32) (ix2 0 d)) j = ((P.z j : ℝ) : EReal) := fun j => (congrArg (fun f => nrmE f j) (funext fun d => V1_main_v0 m ρ c d)).trans (A.q j)
  have h1 : ∀ j, (V1 m ρ c main_v1 : Vec Ideal S1x1024 .f32) (ix2 0 j) = ((P.qg j : ℝ) : EReal) := fun j => (V1_main_v1 m ρ c j).trans (A.qg j)
  have h2 : ∀ j, (V1 m ρ c main_v2 : Vec Ideal S1x1024 .f32) (ix2 0 j) = ((P.qb j : ℝ) : EReal) := fun j => (V1_main_v2 m ρ c j).trans (A.qb j)
  have h3 : ∀ i j, (V1 m ρ c main_arg12 : Vec Ideal S1024x1024 .f32) (ix2 i j) = ((P.Wq i j : ℝ) : EReal) := fun i j => by rw [V1_main_arg12]; exact A.Wq i j
  have h4 : ∀ j, (V1 m ρ c main_v3 : Vec Ideal S1x1024 .f32) (ix2 0 j) = ((P.bq j : ℝ) : EReal) := fun j => (V1_main_v3 m ρ c j).trans (A.bq j)
  have h5 : ∀ i j, (V1 m ρ c main_arg14 : Vec Ideal S1024x1024 .f32) (ix2 i j) = ((P.Wk i j : ℝ) : EReal) := fun i j => by rw [V1_main_arg14]; exact A.Wk i j
  have h6 : ∀ j, (V1 m ρ c main_v4 : Vec Ideal S1x1024 .f32) (ix2 0 j) = bk j := fun j => (V1_main_v4 m ρ c j).trans (A.bk j)
  have h7 : ∀ j, (V1 m ρ c main_v5 : Vec Ideal S1x1024 .f32) (ix2 0 j) = ((P.kg j : ℝ) : EReal) := fun j => (V1_main_v5 m ρ c j).trans (A.kg j)
  have h8 : ∀ j, (V1 m ρ c main_v6 : Vec Ideal S1x1024 .f32) (ix2 0 j) = kb j := fun j => (V1_main_v6 m ρ c j).trans (A.kb j)
  have h9 : ∀ i j, (V1 m ρ c main_arg16 : Vec Ideal S1024x1024 .f32) (ix2 i j) = ((P.Wv i j : ℝ) : EReal) := fun i j => by rw [V1_main_arg16]; exact A.Wv i j
  have h10 : ∀ j, (V1 m ρ c main_v7 : Vec Ideal S1x1024 .f32) (ix2 0 j) = ((P.vg j : ℝ) : EReal) := fun j => (V1_main_v7 m ρ c j).trans (A.vg j)
  have h11 : ∀ j, (V1 m ρ c main_v8 : Vec Ideal S1x1024 .f32) (ix2 0 j) = vb j := fun j => (V1_main_v8 m ρ c j).trans (A.vb j)
  have h12 : ∀ j, (V1 m ρ c main_v9 : Vec Ideal S1x1024 .f32) (ix2 0 j) = ((P.g j : ℝ) : EReal) := fun j => (V1_main_v9 m ρ c j).trans (A.g j)
  have h13 : ∀ j, (V1 m ρ c main_v10 : Vec Ideal S1x1024 .f32) (ix2 0 j) = ((P.b j : ℝ) : EReal) := fun j => (V1_main_v10 m ρ c j).trans (A.b j)
  rw [V3_main_v11_4, fin0_18]
  exact vrows_at P (V1 m ρ c main_v0) (V1 m ρ c main_v1) (V1 m ρ c main_v2) (V1 m ρ c main_v3) (V1 m ρ c main_v4) (V1 m ρ c main_v5) (V1 m ρ c main_v6) (V1 m ρ c main_v7) (V1 m ρ c main_v8) (V1 m ρ c main_v9) (V1 m ρ c main_v10) (V1 m ρ c main_arg12) (V1 m ρ c main_arg14) (V1 m ρ c main_arg16) h10 h11 h12 h13 h9 j

/-- The output row of batch element `b`. -/
def outRow (m : (ℓ : Loc nD τ sig) → Buf (Elt Ideal) ℓ) (c : Dev nD) (P : Par) (vb bv : Fin 1024 → EReal) (X : Fin 8192 → Row) (j : Fin 1024) : EReal :=
  lnE (projE (P.pooledE X (shE vb P.Wv bv)) (fun i k => (m ((c : Thread nD τ).loc main_arg18) : Vec Ideal S1024x1024 .f32) (ix2 i k))
      (fun i => (m ((c : Thread nD τ).loc main_arg19) : Vec Ideal S1024 .f32) (ix1 i)))
    (fun i => (m ((c : Thread nD τ).loc main_arg10) : Vec Ideal S1024 .f32) (ix1 i)) (fun i => (m ((c : Thread nD τ).loc main_arg11) : Vec Ideal S1024 .f32) (ix1 i)) j

/-- The row a second point of a batch element leaves in the output's buffer. -/
theorem point (t : Fin cfg1.N) (b : Fin 8) (ht : t.val = 2 * b.val + 1) (j : Fin 1024) :
    (outsAt1 (V3 m ρ) c t.val t.isLt).1 (ix3 0 0 j) = outRow m c P vb bv (X b) j := by
  have hp : t.val - 1 < cfg1.N := Nat.lt_of_le_of_lt (Nat.sub_le _ _) t.isLt
  have a0 : (⟨t.val - 1, hp⟩ : Fin cfg1.N).val % 2 = 0 := by show (t.val - 1) % 2 = 0; omega
  have a1 : ¬(⟨t.val - 1, hp⟩ : Fin cfg1.N).val % 2 = 1 := by show ¬(t.val - 1) % 2 = 1; omega
  rw [o_B (V3 m ρ) c t (by omega) (by omega) hp, m_A (V3 m ρ) c ⟨t.val - 1, hp⟩ a0 a1, t_A (V3 m ρ) c ⟨t.val - 1, hp⟩ a0 a1, p_A (V3 m ρ) c ⟨t.val - 1, hp⟩ a0 a1]
  have H := consts ρ A
  have x0 : ∀ r d, (iblk1 (V3 m ρ) c 0 ⟨t.val - 1, hp⟩ : Vec Ideal S1x4096x1024 .f32) (ix3 0 r d) = ((lo (X b) r d : ℝ) : EReal) := fun r d => by
    rw [blk1_0 (V3 m ρ) c ⟨t.val - 1, hp⟩ b 0 (by show t.val - 1 = 2 * b.val + 0; omega), V3_main_arg0, A.x]
    exact congrArg (fun s => ((X b s d : ℝ) : EReal)) (Fin.ext (by simp))
  have x1 : ∀ r d, (iblk1 (V3 m ρ) c 0 t : Vec Ideal S1x4096x1024 .f32) (ix3 0 r d) = ((up (X b) r d : ℝ) : EReal) := fun r d => by
    rw [blk1_0 (V3 m ρ) c t b 1 ht, V3_main_arg0, A.x]
    exact congrArg (fun s => ((X b s d : ℝ) : EReal)) (Fin.ext (by simp))
  rw [blk1_1 (V3 m ρ) c t]
  rw [blk1_2 (V3 m ρ) c t]
  rw [blk1_3 (V3 m ρ) c t]
  rw [blk1_4 (V3 m ρ) c t]
  rw [blk1_5 (V3 m ρ) c t]
  rw [blk1_6 (V3 m ρ) c t]
  rw [blk1_7 (V3 m ρ) c t]
  rw [blk1_8 (V3 m ρ) c t]
  rw [blk1_9 (V3 m ρ) c t]
  rw [blk1_10 (V3 m ρ) c t]
  rw [blk1_1 (V3 m ρ) c ⟨t.val - 1, hp⟩]
  rw [blk1_2 (V3 m ρ) c ⟨t.val - 1, hp⟩]
  rw [blk1_3 (V3 m ρ) c ⟨t.val - 1, hp⟩]
  have B := blk_of H x0
  have B' := blk_of H x1
  refine (p9_at (P := P) (X := X b) (fun k h => t_at B B' h k) (fun d h => px_at B B' h d) (wvgg_V3 ρ A) (fun j => (vrows_V3 ρ A j).1) (fun j => (vrows_V3 ρ A j).2.1)
    (fun j => (vrows_V3 ρ A j).2.2.1) (fun j => (vrows_V3 ρ A j).2.2.2) (fun j => (V3_main_v12 m ρ c j).trans (A.bv j)) j).trans ?_
  unfold outRow
  refine congr (congr (congr (congrArg lnE (congr (congrArg (projE _) ?_) ?_)) ?_) ?_) rfl
  · exact congrArg (fun (w : Vec Ideal S1024x1024 .f32) i k => w (ix2 i k)) (V3_main_arg18 m ρ c)
  · exact funext fun i => V3_main_v13 m ρ c i
  · exact funext fun i => V3_main_v14 m ρ c i
  · exact funext fun i => V3_main_v15 m ρ c i

/-- The array the second call leaves. -/
theorem fin1 : (dat1 (V3 m ρ) c).arrAt 11 cfg1.N = fun i : S8x1x1024.Idx => outRow m c P vb bv (X (i 0)) (i 2) := by
  refine (dat1 (V3 m ρ) c).arrAt_eq_of_covers 11 _ (by decide +kernel) fun t hf y => ?_
  have h1 : t.val % 2 = 1 := (flush1_11 t).mp hf
  blk_simp [idx1 t]
  rw [after1_11]
  have hN := (idx1 t).2.2.2.2.2.2.2.2.2.2.2.2
  have h0 : (win1_11.blk t).view.emb y = (ix3 ⟨t.val / 2, by omega⟩ 0 (y 2) : S8x1x1024.Idx) := by
    blk_ext [idx1 t]
  rw [h0]
  have hy : y = (ix3 0 0 (y 2) : S1x1x1024.Idx) := eta1 y
  refine (congrArg _ hy).trans (point ρ A t ⟨t.val / 2, by omega⟩ (by show t.val = 2 * (t.val / 2) + 1; omega) (y 2))
/-- The array the second call leaves. -/
theorem value (i : S8x1024.Idx) : (W5 m ρ c main_v17 : Vec Ideal S8x1024 .f32) i = outRow m c P vb bv (X (i 0)) (i 1) := by
  have h : (W4 m ρ c main_v16 : Vec Ideal S8x1x1024 .f32) = fun i : S8x1x1024.Idx => outRow m c P vb bv (X (i 0)) (i 2) := (W4_arr m ρ c 11).trans (fin1 ρ A)
  unfold W5
  entry_read
  rw [h]
  pointwise
end Cert.KernelIdeal.Val
-- ==== Proof.Value.Ref.lean ====
module
public import proofs.«01_k».proof.Proof.Value.Math
public import proofs.«01_k».proof.Proof.Gen.ReferenceIdeal.Read
public import Idealize.ShloMosaic.Lib.Pointwise
/-! The reference's stages at the arguments of the claim, read as real numbers where they are finite. -/
@[expose] public section
set_option maxRecDepth 16384
noncomputable section
namespace Cert.ReferenceIdeal.Val
open Cert.ReferenceIdeal Cert.ReferenceIdeal.Gen Cert.ReferenceIdeal.Read Cert.Pool Idealize.ShloMosaic Idealize.ShloMosaic.StableHlo

abbrev A (s : Shape) := (⟨s, .f32⟩ : BufTy).Contents (Elt Ideal)

/-- A vector argument that holds the row `f`. -/
def Is1 (x : A S1024) (f : Row) : Prop := ∀ i : S1024.Idx, x i = ((f (i 0) : ℝ) : EReal)
/-- A matrix argument that holds `W`. -/
def Is2 (x : A S1024x1024) (W : Fin 1024 → Row) : Prop := ∀ i : S1024x1024.Idx, x i = ((W (i 0) (i 1) : ℝ) : EReal)
/-- The array `x` holds the rows `X`. -/
def Is3 (x : A S8x8192x1024) (X : Fin 8 → Fin 8192 → Row) : Prop :=
  ∀ i : S8x8192x1024.Idx, x i = ((X (i 0) (i 1) (i 2) : ℝ) : EReal)
/-- The query argument normalizes to the row `z`. -/
def IsQ (x : A S1x1x1024) (z : Row) : Prop := ∀ j, nrmE (fun d => x (ix3 0 0 d)) j = ((z j : ℝ) : EReal)
/-- A vector argument that holds the row `f` of extended reals. -/
def IsE (x : A S1024) (f : Fin 1024 → EReal) : Prop := ∀ i : S1024.Idx, x i = f (i 0)

variable {x0 : A S8x8192x1024} {X : Fin 8 → Fin 8192 → Row} (h0 : Is3 x0 X)
variable {x1 : A S1x1x1024} {P : Par} (h1 : IsQ x1 P.z)
variable {kb bk vb bv : Fin 1024 → EReal}
variable {x2 x3 x4 x5 x6 x7 x8 x9 x13 x15 x17 : A S1024} (h2 : Is1 x2 P.g) (h3 : Is1 x3 P.b) (h4 : Is1 x4 P.qg) (h5 : Is1 x5 P.qb)
  (h6 : Is1 x6 P.kg) (h7 : IsE x7 kb) (h8 : Is1 x8 P.vg) (h9 : IsE x9 vb)
variable {x12 x14 x16 : A S1024x1024} (h12 : Is2 x12 P.Wq) (h13 : Is1 x13 P.bq) (h14 : Is2 x14 P.Wk) (h15 : IsE x15 bk)
  (h16 : Is2 x16 P.Wv) (h17 : IsE x17 bv)

include h0 in
theorem xn_mean (i : S8x8192x1.Idx) : val_main_v3 (F := Ideal) x0 i = ((mean (X (i 0) (i 1)) : ℝ) : EReal) := by
  unfold mean
  simp only [val_main_v3_apply, val_main_v1_apply, val_main_v0_apply, val_main_v2_apply, val_main_cst_apply, val_main_cst_0_apply, h0 _, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
include h0 in
theorem xn_var (i : S8x8192x1.Idx) : val_main_v10 (F := Ideal) x0 i = ((var (X (i 0) (i 1)) : ℝ) : EReal) := by
  unfold var; conv_rhs => unfold mean
  simp only [val_main_v10_apply, val_main_v8_apply, val_main_v7_apply, val_main_v6_apply, val_main_v5_apply, val_main_v4_apply, val_main_v9_apply, val_main_cst_1_apply, val_main_cst_2_apply, h0 _, xn_mean h0, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
include h0 h2 h3 in
theorem xn (i : S8x8192x1024.Idx) : val_main_v23 (F := Ideal) x0 x2 x3 i = ((ln (X (i 0) (i 1)) P.g P.b (i 2) : ℝ) : EReal) := by
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_cst_3_apply, h0 _, xn_mean h0, xn_var h0, rsqrt_var, h2 _, h3 _, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
theorem q_at (i : S8x1x1024.Idx) : val_main_v24 (F := Ideal) x1 i = x1 (ix3 0 0 (i 2)) := by
  rw [val_main_v24_apply]
  refine congrArg x1 (funext fun k => ?_)
  fin_cases k
  · exact Subsingleton.elim (α := Fin 1) _ _
  · exact Subsingleton.elim (α := Fin 1) _ _
  · rfl
theorem qn_mean (i : S8x1x1.Idx) : val_main_v28 (F := Ideal) x1 i = meanE fun d => x1 (ix3 0 0 d) := by
  simp only [val_main_v28_apply, val_main_v26_apply, val_main_v25_apply, val_main_v27_apply, val_main_cst_4_apply, val_main_cst_5_apply, q_at, Ideal.ofBits_def, Ideal.addf_def, Ideal.subf_def, Ideal.mulf_def, Ideal.hostDivf_def, Ideal.hostUnary_rsqrt_def, Ideal.ofBits_zero_f32, lit_1024, lit_eLn, zero_add]
  rfl
theorem qn_var (i : S8x1x1.Idx) : val_main_v35 (F := Ideal) x1 i
    = meanE fun k => (x1 (ix3 0 0 k) - meanE fun d => x1 (ix3 0 0 d)) * (x1 (ix3 0 0 k) - meanE fun d => x1 (ix3 0 0 d)) := by
  simp only [val_main_v35_apply, val_main_v33_apply, val_main_v32_apply, val_main_v31_apply, val_main_v30_apply, val_main_v29_apply, val_main_v34_apply, val_main_cst_6_apply, val_main_cst_7_apply, q_at, qn_mean, Ideal.ofBits_def, Ideal.addf_def, Ideal.subf_def, Ideal.mulf_def, Ideal.hostDivf_def, Ideal.hostUnary_rsqrt_def, Ideal.ofBits_zero_f32, lit_1024, lit_eLn, zero_add]
  rfl
theorem qn_z (i : S8x1x1024.Idx) : val_main_v42 (F := Ideal) x1 i = nrmE (fun d => x1 (ix3 0 0 d)) (i 2) := by
  simp only [val_main_v36_apply, val_main_v37_apply, val_main_v38_apply, val_main_v39_apply, val_main_v40_apply, val_main_v41_apply, val_main_v42_apply, val_main_cst_8_apply, q_at, qn_mean, qn_var, Ideal.ofBits_def, Ideal.addf_def, Ideal.subf_def, Ideal.mulf_def, Ideal.hostDivf_def, Ideal.hostUnary_rsqrt_def, Ideal.ofBits_zero_f32, lit_1024, lit_eLn, zero_add]
  rfl
include h1 h4 h5 in
theorem qn (i : S8x1x1024.Idx) : val_main_v48 (F := Ideal) x1 x4 x5 i = ((P.z (i 2) * P.qg (i 2) + P.qb (i 2) : ℝ) : EReal) := by
  have hz : ∀ i, val_main_v42 (F := Ideal) x1 i = ((P.z (i 2) : ℝ) : EReal) := fun i => (qn_z i).trans (h1 _)
  simp only [val_main_v43_apply, val_main_v44_apply, val_main_v45_apply, val_main_v46_apply, val_main_v47_apply, val_main_v48_apply, hz, h4 _, h5 _, Ideal.addf_def, Ideal.mulf_def, coe_mul', coe_add']
  rfl
include h0 h2 h3 in
theorem kn_mean (i : S8x8192x1.Idx) : val_main_v52 (F := Ideal) x0 x2 x3 i = ((mean (fun d => ln (X (i 0) (i 1)) P.g P.b d) : ℝ) : EReal) := by
  unfold mean
  simp only [val_main_v52_apply, val_main_v50_apply, val_main_v49_apply, val_main_v51_apply, val_main_cst_9_apply, val_main_cst_10_apply, xn h0 h2 h3, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
include h0 h2 h3 in
theorem kn_var (i : S8x8192x1.Idx) : val_main_v59 (F := Ideal) x0 x2 x3 i = ((var (fun d => ln (X (i 0) (i 1)) P.g P.b d) : ℝ) : EReal) := by
  unfold var; conv_rhs => unfold mean
  simp only [val_main_v59_apply, val_main_v57_apply, val_main_v56_apply, val_main_v55_apply, val_main_v54_apply, val_main_v53_apply, val_main_v58_apply, val_main_cst_11_apply, val_main_cst_12_apply, xn h0 h2 h3, kn_mean h0 h2 h3, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
include h0 h2 h3 h6 h7 in
theorem kn (i : S8x8192x1024.Idx) : val_main_v72 (F := Ideal) x0 x2 x3 x6 x7 i = ((lz (fun d => ln (X (i 0) (i 1)) P.g P.b d) P.kg (i 2) : ℝ) : EReal) + kb (i 2) := by
  simp only [val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_cst_13_apply, xn h0 h2 h3, kn_mean h0 h2 h3, kn_var h0 h2 h3, rsqrt_var, h6 _, h7 _, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
include h0 h2 h3 in
theorem vn_mean (i : S8x8192x1.Idx) : val_main_v76 (F := Ideal) x0 x2 x3 i = ((mean (fun d => ln (X (i 0) (i 1)) P.g P.b d) : ℝ) : EReal) := by
  unfold mean
  simp only [val_main_v76_apply, val_main_v74_apply, val_main_v73_apply, val_main_v75_apply, val_main_cst_14_apply, val_main_cst_15_apply, xn h0 h2 h3, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
include h0 h2 h3 in
theorem vn_var (i : S8x8192x1.Idx) : val_main_v83 (F := Ideal) x0 x2 x3 i = ((var (fun d => ln (X (i 0) (i 1)) P.g P.b d) : ℝ) : EReal) := by
  unfold var; conv_rhs => unfold mean
  simp only [val_main_v83_apply, val_main_v81_apply, val_main_v80_apply, val_main_v79_apply, val_main_v78_apply, val_main_v77_apply, val_main_v82_apply, val_main_cst_16_apply, val_main_cst_17_apply, xn h0 h2 h3, vn_mean h0 h2 h3, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
include h0 h2 h3 h8 h9 in
theorem vn (i : S8x8192x1024.Idx) : val_main_v96 (F := Ideal) x0 x2 x3 x8 x9 i = ((lz (fun d => ln (X (i 0) (i 1)) P.g P.b d) P.vg (i 2) : ℝ) : EReal) + vb (i 2) := by
  simp only [val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_cst_18_apply, xn h0 h2 h3, vn_mean h0 h2 h3, vn_var h0 h2 h3, rsqrt_var, h8 _, h9 _, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl

include h1 h4 h5 h12 h13 in
theorem q_eq (i : S8x1x1024.Idx) : val_main_v101 (F := Ideal) x1 x4 x5 x12 x13 i = ((P.Q (i 2) : ℝ) : EReal) := by
  unfold Par.Q
  simp only [val_main_v101_apply, val_main_v98_apply, val_main_v100_apply, val_main_v99_apply, val_main_v97_apply, qn h1 h4 h5, h12 _, h13 _, Ideal.ofBits_def, Ideal.addf_def, Ideal.subf_def, Ideal.mulf_def, Ideal.hostDivf_def, Ideal.hostUnary_rsqrt_def, Ideal.ofBits_zero_f32, lit_1024, lit_eLn, zero_add, coe_sum, coe_mul', coe_add', coe_sub', div_1024]
  rfl
include h0 h2 h3 h6 h7 h14 h15 in
theorem k_eq (i : S8x8192x1024.Idx) : val_main_v107 (F := Ideal) x0 x2 x3 x6 x7 x14 x15 i = ((P.K (X (i 0) (i 1)) (i 2) : ℝ) : EReal) + shE kb P.Wk bk (i 2) := by
  unfold Par.K
  simp only [val_main_v107_apply, val_main_v104_apply, val_main_v106_apply, val_main_v105_apply, val_main_v103_apply, kn h0 h2 h3 h6 h7, h14 _, h15 _, Ideal.ofBits_def, Ideal.addf_def, Ideal.subf_def, Ideal.mulf_def, Ideal.hostDivf_def, Ideal.hostUnary_rsqrt_def, Ideal.ofBits_zero_f32, lit_1024, lit_eLn, zero_add]
  exact shift_proj (fun d => lz (fun d => ln (X (i 0) (i 1)) P.g P.b d) P.kg d) kb P.Wk bk (i 2)
include h0 h2 h3 h8 h9 h16 h17 in
theorem v_eq (i : S8x8192x1024.Idx) : val_main_v113 (F := Ideal) x0 x2 x3 x8 x9 x16 x17 i = ((P.V (X (i 0) (i 1)) (i 2) : ℝ) : EReal) + shE vb P.Wv bv (i 2) := by
  unfold Par.V
  simp only [val_main_v113_apply, val_main_v110_apply, val_main_v112_apply, val_main_v111_apply, val_main_v109_apply, vn h0 h2 h3 h8 h9, h16 _, h17 _, Ideal.ofBits_def, Ideal.addf_def, Ideal.subf_def, Ideal.mulf_def, Ideal.hostDivf_def, Ideal.hostUnary_rsqrt_def, Ideal.ofBits_zero_f32, lit_1024, lit_eLn, zero_add]
  exact shift_proj (fun d => lz (fun d => ln (X (i 0) (i 1)) P.g P.b d) P.vg d) vb P.Wv bv (i 2)

theorem q_head (i : S8x1x16x64.Idx) : (idx_main_v102 i) 2 = col (i 2) (i 3) := by
  have h0 : (i 0).val < 8 := (i 0).isLt
  have h1 : (i 1).val < 1 := (i 1).isLt
  have h2 : (i 2).val < 16 := (i 2).isLt
  have h3 : (i 3).val < 64 := (i 3).isLt
  refine Fin.ext ?_
  show ((((i 0).val * 1 + (i 1).val) * 16 + (i 2).val) * 64 + (i 3).val) % 1024 = (i 2).val * 64 + (i 3).val
  omega
theorem k_idx (i : S8x8192x16x64.Idx) : (idx_main_v108 i) 0 = i 0 ∧ (idx_main_v108 i) 1 = i 1 ∧ (idx_main_v108 i) 2 = col (i 2) (i 3) := by
  have h0 : (i 0).val < 8 := (i 0).isLt
  have h1 : (i 1).val < 8192 := (i 1).isLt
  have h2 : (i 2).val < 16 := (i 2).isLt
  have h3 : (i 3).val < 64 := (i 3).isLt
  refine ⟨Fin.ext ?_, Fin.ext ?_, Fin.ext ?_⟩
  · show ((((i 0).val * 8192 + (i 1).val) * 16 + (i 2).val) * 64 + (i 3).val) / 8388608 = (i 0).val
    omega
  · show ((((i 0).val * 8192 + (i 1).val) * 16 + (i 2).val) * 64 + (i 3).val) / 1024 % 8192 = (i 1).val
    omega
  · show ((((i 0).val * 8192 + (i 1).val) * 16 + (i 2).val) * 64 + (i 3).val) % 1024 = (i 2).val * 64 + (i 3).val
    omega
theorem o_idx (i : S8x1x1024.Idx) : (idx_main_v134 i) 0 = i 0 ∧ (idx_main_v134 i) 2 = hd (i 2) ∧ col ((idx_main_v134 i) 2) ((idx_main_v134 i) 3) = i 2 := by
  have h0 : (i 0).val < 8 := (i 0).isLt
  have h1 : (i 1).val < 1 := (i 1).isLt
  have h2 : (i 2).val < 1024 := (i 2).isLt
  refine ⟨Fin.ext ?_, Fin.ext ?_, Fin.ext ?_⟩
  · show (((i 0).val * 1 + (i 1).val) * 1024 + (i 2).val) / 1024 = (i 0).val
    omega
  · show (((i 0).val * 1 + (i 1).val) * 1024 + (i 2).val) / 64 % 16 = (i 2).val / 64
    omega
  · show (((i 0).val * 1 + (i 1).val) * 1024 + (i 2).val) / 64 % 16 * 64 + (((i 0).val * 1 + (i 1).val) * 1024 + (i 2).val) % 64 = (i 2).val
    omega

theorem sqrt_64 : Ideal.sqrt ((64 : ℝ) : EReal) = ((8 : ℝ) : EReal) := by
  show (if (64 : ℝ) < 0 then (⊥ : EReal) else ((√64 : ℝ) : EReal)) = _
  rw [if_neg (by norm_num), show (64 : ℝ) = 8 ^ 2 by norm_num, Real.sqrt_sq (by norm_num)]
theorem scale_eq (i : S_.Idx) : val_main_v116 (F := Ideal) i = ((1 / 8 : ℝ) : EReal) := by
  simp only [val_main_v116_apply, val_main_v115_apply, val_main_cst_19_apply, val_main_cst_20_apply, Ideal.ofBits_def, Ideal.hostDivf_def,
    Ideal.hostUnary_sqrt_def, lit_64, lit_one, sqrt_64]
  exact div_coe 1 8 (by norm_num)

include h1 h4 h5 h12 h13 in
theorem qs_eq (i : S8x1x16x64.Idx) : val_main_v118 (F := Ideal) x1 x4 x5 x12 x13 i = ((P.Q (col (i 2) (i 3)) * (1 / 8) : ℝ) : EReal) := by
  simp only [val_main_v118_apply, val_main_v102_apply, val_main_v117_apply, scale_eq, q_eq h1 h4 h5 h12 h13, q_head, Ideal.mulf_def, coe_mul']
include h0 h2 h3 h6 h7 h14 h15 in
theorem kh_eq (i : S8x8192x16x64.Idx) : val_main_v108 (F := Ideal) x0 x2 x3 x6 x7 x14 x15 i = ((P.K (X (i 0) (i 1)) (col (i 2) (i 3)) : ℝ) : EReal) + shE kb P.Wk bk (col (i 2) (i 3)) := by
  obtain ⟨e0, e1, e2⟩ := k_idx i
  rw [val_main_v108_apply, k_eq h0 h2 h3 h6 h7 h14 h15, e0, e1, e2]
include h0 h2 h3 h8 h9 h16 h17 in
theorem vh_eq (i : S8x8192x16x64.Idx) : val_main_v114 (F := Ideal) x0 x2 x3 x8 x9 x16 x17 i = ((P.V (X (i 0) (i 1)) (col (i 2) (i 3)) : ℝ) : EReal) + shE vb P.Wv bv (col (i 2) (i 3)) := by
  obtain ⟨e0, e1, e2⟩ := k_idx i
  rw [val_main_v114_apply, v_eq h0 h2 h3 h8 h9 h16 h17]
  change ((P.V (X ((idx_main_v108 i) 0) ((idx_main_v108 i) 1)) ((idx_main_v108 i) 2) : ℝ) : EReal) + shE vb P.Wv bv ((idx_main_v108 i) 2) = _
  rw [e0, e1, e2]

section
include h0 h1 h2 h3 h4 h5 h6 h7 h12 h13 h14 h15
theorem score_sh (i : S8x16x1x8192.Idx) :
    val_main_v119 (F := Ideal) x0 x1 x2 x3 x4 x5 x6 x7 x12 x13 x14 x15 i = ((P.score0 (X (i 0) (i 3)) (i 1) : ℝ) : EReal) + P.shS kb bk (i 1) := by
  rw [val_main_v119_apply]
  simp only [qs_eq h1 h4 h5 h12 h13, kh_eq h0 h2 h3 h6 h7 h14 h15]
  exact Eq.trans (Finset.sum_congr rfl fun e _ => rfl) (P.score_shift (X (i 0) (i 3)) kb bk (i 1))
section
variable {h : Fin 16} (hi : P.shS kb bk h = ⊥ ∨ P.shS kb bk h = ⊤)
include hi
theorem score_inf (k : S8x16x1x8192.Idx) (hk : k 1 = h) : val_main_v119 (F := Ideal) x0 x1 x2 x3 x4 x5 x6 x7 x12 x13 x14 x15 k = P.shS kb bk h := by
  refine (score_sh h0 h1 h2 h3 h4 h5 h6 h7 h12 h13 h14 h15 k).trans ?_
  rw [show P.shS kb bk (k 1) = P.shS kb bk h from congrArg _ hk]
  rcases hi with h | h <;> rw [h]
  · exact EReal.add_bot _
  · exact EReal.coe_add_top _
theorem max_inf (k : S8x16x1.Idx) (hk : k 1 = h) : val_main_v120 (F := Ideal) x0 x1 x2 x3 x4 x5 x6 x7 x12 x13 x14 x15 k = P.shS kb bk h := by
  unfold val_main_v120
  have hr : S8x16x1x8192.Reduces [3] S8x16x1 := by decide
  have e : (val_main_v119 (F := Ideal) x0 x1 x2 x3 x4 x5 x6 x7 x12 x13 x14 x15) ∘ hr.lift k = fun _ : Fin 8192 => P.shS kb bk h :=
    funext fun s => score_inf h0 h1 h2 h3 h4 h5 h6 h7 h12 h13 h14 h15 hi _ hk
  rw [Host.reduce_eq_fold_single _ _ _ reducesTo_S8x16x1x8192_S8x16x1_d3 hr _ k, val_main_cst_21_apply, Ideal.ofBits_def, lit_bot, e]
  exact fold_max_const (by norm_num) _
theorem ew_inf (k : S8x16x1x8192.Idx) (hk : k 1 = h) : val_main_v124 (F := Ideal) x0 x1 x2 x3 x4 x5 x6 x7 x12 x13 x14 x15 k = 0 := by
  have hm : val_main_v122 (F := Ideal) x0 x1 x2 x3 x4 x5 x6 x7 x12 x13 x14 x15 k = P.shS kb bk h := by
    rw [val_main_v122_apply, val_main_v121_apply]
    exact max_inf h0 h1 h2 h3 h4 h5 h6 h7 h12 h13 h14 h15 hi _ hk
  rw [val_main_v124_apply, val_main_v123_apply, score_inf h0 h1 h2 h3 h4 h5 h6 h7 h12 h13 h14 h15 hi k hk, hm, Ideal.hostUnary_exp_def, Ideal.subf_def]
  rcases hi with h | h <;> rw [h] <;> rfl
/-- Where the key's shift and bias are infinite in the scores, the weights are zero. -/
theorem wt_inf (i : S8x16x1x8192.Idx) (hk : i 1 = h) : val_main_v130 (F := Ideal) x0 x1 x2 x3 x4 x5 x6 x7 x12 x13 x14 x15 i = 0 := by
  have hs : val_main_v125 (F := Ideal) x0 x1 x2 x3 x4 x5 x6 x7 x12 x13 x14 x15 (idx_main_v126 (idx_main_v129 i)) = 0 := by
    rw [val_main_v125_apply, val_main_cst_22_apply, Ideal.ofBits_def, Ideal.ofBits_zero_f32, zero_add]
    exact Finset.sum_eq_zero fun s _ => ew_inf h0 h1 h2 h3 h4 h5 h6 h7 h12 h13 h14 h15 hi _ hk
  simp only [val_main_v130_apply, val_main_v129_apply, val_main_v128_apply, val_main_v127_apply, val_main_v126_apply,
    val_main_cst_23_apply, Ideal.ofBits_def, Ideal.addf_def, Ideal.hostDivf_def, hs, zero_add, lit_eSm, ew_inf h0 h1 h2 h3 h4 h5 h6 h7 h12 h13 h14 h15 hi i hk]
  exact (div_coe 0 eSm eSm_pos.ne').trans (by rw [zero_div]; rfl)
end
variable (hb : ∀ h : Fin 16, P.shS kb bk h = ((P.bias h.val : ℝ) : EReal))
include hb
theorem score_eq (i : S8x16x1x8192.Idx) :
    val_main_v119 (F := Ideal) x0 x1 x2 x3 x4 x5 x6 x7 x12 x13 x14 x15 i = ((P.score (X (i 0) (i 3)) (i 1) : ℝ) : EReal) := by
  exact (score_sh h0 h1 h2 h3 h4 h5 h6 h7 h12 h13 h14 h15 i).trans ((congrArg _ (hb (i 1))).trans (coe_add' _ _))
theorem max_eq (i : S8x16x1.Idx) :
    val_main_v120 (F := Ideal) x0 x1 x2 x3 x4 x5 x6 x7 x12 x13 x14 x15 i = ((mx (fun s => P.score (X (i 0) s) (i 1)) : ℝ) : EReal) := by
  unfold val_main_v120
  have h : S8x16x1x8192.Reduces [3] S8x16x1 := by decide
  have e : (val_main_v119 (F := Ideal) x0 x1 x2 x3 x4 x5 x6 x7 x12 x13 x14 x15) ∘ h.lift i
      = fun s : Fin 8192 => ((P.score (X (i 0) s) (i 1) : ℝ) : EReal) :=
    funext fun s => (score_eq h0 h1 h2 h3 h4 h5 h6 h7 h12 h13 h14 h15 hb _).trans rfl
  rw [Host.reduce_eq_fold_single _ _ _ reducesTo_S8x16x1x8192_S8x16x1_d3 h _ i, val_main_cst_21_apply, Ideal.ofBits_def, lit_bot, e]
  exact fold_max_eq_mx (by norm_num) _
theorem ew_eq (i : S8x16x1x8192.Idx) :
    val_main_v124 (F := Ideal) x0 x1 x2 x3 x4 x5 x6 x7 x12 x13 x14 x15 i = ((P.ew (X (i 0)) (i 1) (i 3) : ℝ) : EReal) := by
  simp only [val_main_v124_apply, val_main_v123_apply, val_main_v122_apply, val_main_v121_apply, max_eq h0 h1 h2 h3 h4 h5 h6 h7 h12 h13 h14 h15 hb,
    score_eq h0 h1 h2 h3 h4 h5 h6 h7 h12 h13 h14 h15 hb, Ideal.hostUnary_exp_def, Ideal.subf_def, coe_sub', exp_coe]
  rfl
theorem wt_eq (i : S8x16x1x8192.Idx) :
    val_main_v130 (F := Ideal) x0 x1 x2 x3 x4 x5 x6 x7 x12 x13 x14 x15 i = ((P.wt (X (i 0)) (i 1) (i 3) : ℝ) : EReal) := by
  simp only [val_main_v130_apply, val_main_v129_apply, val_main_v128_apply, val_main_v127_apply, val_main_v126_apply, val_main_v125_apply,
    val_main_cst_22_apply, val_main_cst_23_apply, ew_eq h0 h1 h2 h3 h4 h5 h6 h7 h12 h13 h14 h15 hb, Ideal.ofBits_def, Ideal.addf_def, Ideal.hostDivf_def,
    Ideal.ofBits_zero_f32, zero_add, lit_eSm, coe_sum, coe_add']
  exact div_coe _ _ (P.den_ne (X (i 0)) (i 1))
variable (hc : ∀ b h s, eSm ≤ P.wt (X b) h s)
include hc
theorem clip_eq (i : S8x16x1x8192.Idx) :
    val_main_v131 (F := Ideal) x0 x1 x2 x3 x4 x5 x6 x7 x12 x13 x14 x15 i = ((P.wt (X (i 0)) (i 1) (i 3) : ℝ) : EReal) := by
  simp only [val_main_v131_apply, val_main_call0_v4_apply, val_main_call0_v3_apply, val_main_call0_v2_apply, val_main_call0_v1_apply, val_main_call0_v0_apply,
    val_main_cst_24_apply, val_main_cst_25_apply, wt_eq h0 h1 h2 h3 h4 h5 h6 h7 h12 h13 h14 h15 hb, Ideal.ofBits_def, Ideal.maximumf_def, Ideal.minimumf_def,
    lit_eSm, lit_one, max_coe, min_coe]
  exact congrArg _ ((congrArg _ (max_eq_right (hc (i 0) (i 1) (i 3)))).trans (min_eq_right (P.wt_le_one (X (i 0)) (i 1) (i 3))))
include h8 h9 h16 h17
theorem pooled_eq (i : S8x1x1024.Idx) :
    val_main_v134 (F := Ideal) x0 x1 x2 x3 x4 x5 x6 x7 x8 x9 x12 x13 x14 x15 x16 x17 i = P.pooledE (X (i 0)) (shE vb P.Wv bv) (i 2) := by
  obtain ⟨e0, e1, e2⟩ := o_idx i
  simp only [val_main_v134_apply, val_main_v133_apply, val_main_v132_apply, vh_eq h0 h2 h3 h8 h9 h16 h17, clip_eq h0 h1 h2 h3 h4 h5 h6 h7 h12 h13 h14 h15 hb hc]
  change (∑ s, (((P.V (X ((idx_main_v134 i) 0) s) (col ((idx_main_v134 i) 2) ((idx_main_v134 i) 3)) : ℝ) : EReal)
      + shE vb P.Wv bv (col ((idx_main_v134 i) 2) ((idx_main_v134 i) 3))) * ((P.wt (X ((idx_main_v134 i) 0)) ((idx_main_v134 i) 2) s : ℝ) : EReal)) = _
  rw [e0, e2, e1, shift_sum, sum_mul_const _ _ (fun s => P.wt_nonneg _ _ s)]; rfl

variable {x10 x11 x19 : A S1024} {x18 : A S1024x1024} {Wo : Fin 1024 → Fin 1024 → EReal} {bo og ob : Fin 1024 → EReal}
  (h18 : ∀ i, x18 i = Wo (i 0) (i 1)) (h19 : ∀ i, x19 i = bo (i 0)) (h10 : ∀ i, x10 i = og (i 0)) (h11 : ∀ i, x11 i = ob (i 0))
include h18 h19
theorem proj_eq (i : S8x1x1024.Idx) :
    val_main_v139 (F := Ideal) x0 x1 x2 x3 x4 x5 x6 x7 x8 x9 x12 x13 x14 x15 x16 x17 x18 x19 i
      = projE (P.pooledE (X (i 0)) (shE vb P.Wv bv)) Wo bo (i 2) := by
  simp only [val_main_v139_apply, val_main_v138_apply, val_main_v137_apply, val_main_v136_apply, val_main_v135_apply,
    pooled_eq h0 h1 h2 h3 h4 h5 h6 h7 h8 h9 h12 h13 h14 h15 h16 h17 hb hc, h18 _, h19 _, Ideal.addf_def]
  rfl
theorem omean_eq (i : S8x1x1.Idx) :
    val_main_v143 (F := Ideal) x0 x1 x2 x3 x4 x5 x6 x7 x8 x9 x12 x13 x14 x15 x16 x17 x18 x19 i
      = meanE (projE (P.pooledE (X (i 0)) (shE vb P.Wv bv)) Wo bo) := by
  simp only [val_main_v143_apply, val_main_v142_apply, val_main_v141_apply, val_main_v140_apply, val_main_cst_26_apply, val_main_cst_27_apply,
    proj_eq h0 h1 h2 h3 h4 h5 h6 h7 h8 h9 h12 h13 h14 h15 h16 h17 hb hc h18 h19, Ideal.ofBits_def, Ideal.ofBits_zero_f32, zero_add, lit_1024, Ideal.hostDivf_def]
  rfl
theorem ovar_eq (i : S8x1x1.Idx) :
    val_main_v150 (F := Ideal) x0 x1 x2 x3 x4 x5 x6 x7 x8 x9 x12 x13 x14 x15 x16 x17 x18 x19 i
      = meanE (fun k => (projE (P.pooledE (X (i 0)) (shE vb P.Wv bv)) Wo bo k - meanE (projE (P.pooledE (X (i 0)) (shE vb P.Wv bv)) Wo bo))
          * (projE (P.pooledE (X (i 0)) (shE vb P.Wv bv)) Wo bo k - meanE (projE (P.pooledE (X (i 0)) (shE vb P.Wv bv)) Wo bo))) := by
  conv_rhs => unfold meanE
  simp only [val_main_v150_apply, val_main_v149_apply, val_main_v148_apply, val_main_v147_apply, val_main_v146_apply, val_main_v145_apply,
    val_main_v144_apply, val_main_cst_28_apply, val_main_cst_29_apply, omean_eq h0 h1 h2 h3 h4 h5 h6 h7 h8 h9 h12 h13 h14 h15 h16 h17 hb hc h18 h19,
    proj_eq h0 h1 h2 h3 h4 h5 h6 h7 h8 h9 h12 h13 h14 h15 h16 h17 hb hc h18 h19, Ideal.ofBits_def, Ideal.ofBits_zero_f32, zero_add, lit_1024,
    Ideal.hostDivf_def, Ideal.mulf_def, Ideal.subf_def]
  rfl
include h10 h11
/-- The reference's result. -/
theorem result_eq (i : S8x1024.Idx) :
    val_main_v164 (F := Ideal) x0 x1 x2 x3 x4 x5 x6 x7 x8 x9 x10 x11 x12 x13 x14 x15 x16 x17 x18 x19 i
      = lnE (projE (P.pooledE (X (i 0)) (shE vb P.Wv bv)) Wo bo) og ob (i 1) := by
  have e0 : (idx_main_v164 i) 0 = i 0 := by
    have a : (i 0).val < 8 := (i 0).isLt
    have b : (i 1).val < 1024 := (i 1).isLt
    refine Fin.ext ?_
    show ((i 0).val * 1024 + (i 1).val) / 1024 = (i 0).val
    omega
  have e2 : (idx_main_v164 i) 2 = i 1 := by
    have a : (i 0).val < 8 := (i 0).isLt
    have b : (i 1).val < 1024 := (i 1).isLt
    refine Fin.ext ?_
    show ((i 0).val * 1024 + (i 1).val) % 1024 = (i 1).val
    omega
  rw [val_main_v164_apply, ← e0, ← e2]
  generalize idx_main_v164 i = k
  simp only [val_main_v163_apply, val_main_v162_apply, val_main_v161_apply, val_main_v160_apply, val_main_v159_apply, val_main_v158_apply,
    val_main_v157_apply, val_main_v156_apply, val_main_v155_apply, val_main_v154_apply, val_main_v153_apply, val_main_v152_apply, val_main_v151_apply,
    val_main_cst_30_apply, omean_eq h0 h1 h2 h3 h4 h5 h6 h7 h8 h9 h12 h13 h14 h15 h16 h17 hb hc h18 h19,
    ovar_eq h0 h1 h2 h3 h4 h5 h6 h7 h8 h9 h12 h13 h14 h15 h16 h17 hb hc h18 h19,
    proj_eq h0 h1 h2 h3 h4 h5 h6 h7 h8 h9 h12 h13 h14 h15 h16 h17 hb hc h18 h19, h10 _, h11 _, Ideal.ofBits_def, lit_eLn,
    Ideal.hostUnary_rsqrt_def, Ideal.mulf_def, Ideal.subf_def, Ideal.addf_def]
  rfl
end

end Cert.ReferenceIdeal.Val
-- ==== Proof.Value.Pre.lean ====
module
public import proofs.«01_k».proof.Proof.Gen.Pre_weights_above_floor
public import proofs.«01_k».proof.Proof.Value.Ref
public import Idealize.ShloMosaic.Lib.ReduceAll
/-! What the precondition says: factors are real and no attention weight lies under the reference's floor. -/
@[expose] public section
set_option maxRecDepth 16384
noncomputable section
namespace Cert.Pre_weights_above_floor.Val
open Cert.Pre_weights_above_floor Cert.Pool Cert.ReferenceIdeal.Val Idealize.ShloMosaic Idealize.ShloMosaic.StableHlo

/-- Every entry's absolute value is below infinity. -/
def allfin {s : Shape} {axes : List (Fin s.rank)} (x : FVec Ideal s .f32) (hb : S_.BroadcastsInDim s (![] : Fin 0 → Fin s.rank)) (hr : s.ReducesTo axes S_) : IVec S_ 1 :=
  Host.reduce IntOp.andi (cmpf .olt (Host.absf x) (broadcastInDim s ![] hb (constant S_ .f32 0x7F800000#32))) (constantI S_ 1 1#1) hr Gen.h_S_

theorem lit_inf : Ideal.ofBits FTy.f32 0x7F800000#32 = ⊤ := by simp [Ideal.ofBits, Ideal.ieee]

theorem real_of_allfin {s : Shape} {axes : List (Fin s.rank)} {x : FVec Ideal s .f32} {hb : S_.BroadcastsInDim s (![] : Fin 0 → Fin s.rank)} {hr : s.ReducesTo axes S_} {j : S_.Idx}
    (h : allfin x hb hr j = 1#1) (i : s.Idx) : x i = (((x i).toReal : ℝ) : EReal) := by
  have : Subsingleton S_.Idx := ⟨fun a b => funext fun k => k.elim0⟩
  have e : Ideal.cmp .olt (FloatOps.hostAbsf (F := Ideal) (x i)) (Ideal.ofBits FTy.f32 0x7F800000#32) = 1#1 := Host.reduce_andi_all _ _ hr Gen.h_S_ j h i
  rw [lit_inf] at e
  have e' := (Ideal.cmp_olt_eq_one _ _).1 e
  refine (EReal.coe_toReal ?_ ?_).symm <;> intro q <;> rw [q] at e' <;> exact absurd e' (not_lt_of_ge (by simp [FloatOps.hostAbsf]))

variable {x0 : FVec Ideal S8x8192x1024 .f32}
  {x1 : FVec Ideal S1x1x1024 .f32}
  {x2 : FVec Ideal S1024 .f32}
  {x3 : FVec Ideal S1024 .f32}
  {x4 : FVec Ideal S1024 .f32}
  {x5 : FVec Ideal S1024 .f32}
  {x6 : FVec Ideal S1024 .f32}
  {x7 : FVec Ideal S1024 .f32}
  {x8 : FVec Ideal S1024 .f32}
  {x9 : FVec Ideal S1024 .f32}
  {x10 : FVec Ideal S1024 .f32}
  {x11 : FVec Ideal S1024 .f32}
  {x12 : FVec Ideal S1024x1024 .f32}
  {x13 : FVec Ideal S1024 .f32}
  {x14 : FVec Ideal S1024x1024 .f32}
  {x15 : FVec Ideal S1024 .f32}
  {x16 : FVec Ideal S1024x1024 .f32}
  {x17 : FVec Ideal S1024 .f32}
  {x18 : FVec Ideal S1024x1024 .f32}
  {x19 : FVec Ideal S1024 .f32}

theorem fn_eq : fn (F := Ideal) x0 x1 x2 x3 x4 x5 x6 x7 x8 x9 x10 x11 x12 x13 x14 x15 x16 x17 x18 x19 = andi (andi (andi (andi (andi (andi (andi (andi (andi (andi (andi (cmpf (F := Ideal) (φ := .f32) .oge (Cert.ReferenceIdeal.Read.val_main_v130 (F := Ideal) x0 x1 x2 x3 x4 x5 x6 x7 x12 x13 x14 x15 : FVec Ideal S8x16x1x8192 .f32) (broadcastInDim S8x16x1x8192 ![] Gen.bcast_S_S8x16x1x8192 (constant S_ .f32 0x3089705F#32)))
    (broadcastInDim S8x16x1x8192 ![] Gen.bcast_S_S8x16x1x8192 (allfin x0 Gen.bcast_S_S8x8192x1024 Gen.reducesTo_S8x8192x1024_S_d0_1_2)))
    (broadcastInDim S8x16x1x8192 ![] Gen.bcast_S_S8x16x1x8192 (allfin x2 Gen.bcast_S_S1024 Gen.reducesTo_S1024_S_d0)))
    (broadcastInDim S8x16x1x8192 ![] Gen.bcast_S_S8x16x1x8192 (allfin x3 Gen.bcast_S_S1024 Gen.reducesTo_S1024_S_d0)))
    (broadcastInDim S8x16x1x8192 ![] Gen.bcast_S_S8x16x1x8192 (allfin x4 Gen.bcast_S_S1024 Gen.reducesTo_S1024_S_d0)))
    (broadcastInDim S8x16x1x8192 ![] Gen.bcast_S_S8x16x1x8192 (allfin x5 Gen.bcast_S_S1024 Gen.reducesTo_S1024_S_d0)))
    (broadcastInDim S8x16x1x8192 ![] Gen.bcast_S_S8x16x1x8192 (allfin x6 Gen.bcast_S_S1024 Gen.reducesTo_S1024_S_d0)))
    (broadcastInDim S8x16x1x8192 ![] Gen.bcast_S_S8x16x1x8192 (allfin x8 Gen.bcast_S_S1024 Gen.reducesTo_S1024_S_d0)))
    (broadcastInDim S8x16x1x8192 ![] Gen.bcast_S_S8x16x1x8192 (allfin x12 Gen.bcast_S_S1024x1024 Gen.reducesTo_S1024x1024_S_d0_1)))
    (broadcastInDim S8x16x1x8192 ![] Gen.bcast_S_S8x16x1x8192 (allfin x13 Gen.bcast_S_S1024 Gen.reducesTo_S1024_S_d0)))
    (broadcastInDim S8x16x1x8192 ![] Gen.bcast_S_S8x16x1x8192 (allfin x14 Gen.bcast_S_S1024x1024 Gen.reducesTo_S1024x1024_S_d0_1)))
    (broadcastInDim S8x16x1x8192 ![] Gen.bcast_S_S8x16x1x8192 (allfin x16 Gen.bcast_S_S1024x1024 Gen.reducesTo_S1024x1024_S_d0_1)) := rfl

theorem eta1 (i : S1024.Idx) : i = ix1 (i 0) := by funext k; fin_cases k; rfl
theorem eta2 (i : S1024x1024.Idx) : i = ix2 (i 0) (i 1) := by funext k; fin_cases k <;> rfl
theorem is1 {x : FVec Ideal S1024 .f32} (h : ∀ i, x i = (((x i).toReal : ℝ) : EReal)) : Is1 x fun j => (x (ix1 j)).toReal := fun i => by
  exact (h i).trans (congrArg (fun k => (((x k).toReal : ℝ) : EReal)) (eta1 i))
theorem is2 {x : FVec Ideal S1024x1024 .f32} (h : ∀ i, x i = (((x i).toReal : ℝ) : EReal)) : Is2 x fun j k => (x (ix2 j k)).toReal := fun i => by
  exact (h i).trans (congrArg (fun k => (((x k).toReal : ℝ) : EReal)) (eta2 i))
theorem is3 {x : FVec Ideal S8x8192x1024 .f32} (h : ∀ i, x i = (((x i).toReal : ℝ) : EReal)) : Is3 x fun a j k => (x (ix3 a j k)).toReal := fun i => by
  have e : i = ix3 (i 0) (i 1) (i 2) := by funext k; fin_cases k <;> rfl
  exact (h i).trans (congrArg (fun k => (((x k).toReal : ℝ) : EReal)) e)
theorem isE (x : FVec Ideal S1024 .f32) : IsE x fun j => x (ix1 j) := fun i => congrArg x (eta1 i)

theorem both {a b : IVec S8x16x1x8192 1} {i : S8x16x1x8192.Idx} (h : andi a b i = 1#1) : a i = 1#1 ∧ b i = 1#1 := IntOp.andi_eq_one.1 h
/-- A weight at least the floor, and none of the scores' shift infinite. -/
theorem floor {kb bk : Fin 1024 → EReal} {P : Par} {X : Fin 8 → Fin 8192 → Row} (h0 : Is3 x0 X) (h1 : IsQ x1 P.z)
    (h2 : Is1 x2 P.g) (h3 : Is1 x3 P.b) (h4 : Is1 x4 P.qg) (h5 : Is1 x5 P.qb) (h6 : Is1 x6 P.kg) (h7 : IsE x7 kb) (h12 : Is2 x12 P.Wq) (h13 : Is1 x13 P.bq) (h14 : Is2 x14 P.Wk) (h15 : IsE x15 bk)
    (w : ∀ b h s, ((eSm : ℝ) : EReal) ≤ Cert.ReferenceIdeal.Read.val_main_v130 (F := Ideal) x0 x1 x2 x3 x4 x5 x6 x7 x12 x13 x14 x15 (ix4 b h 0 s)) (h : Fin 16) :
    P.shS kb bk h = (((P.shS kb bk h).toReal : ℝ) : EReal) := by
  have bad : ¬(P.shS kb bk h = ⊥ ∨ P.shS kb bk h = ⊤) := fun c => by
    have e := (w 0 h 0).trans_eq (wt_inf h0 h1 h2 h3 h4 h5 h6 h7 h12 h13 h14 h15 c (ix4 0 h 0 0) rfl)
    exact absurd (EReal.coe_le_coe_iff.1 e) (not_le.2 eSm_pos)
  exact (EReal.coe_toReal (fun c => bad (Or.inr c)) (fun c => bad (Or.inl c))).symm

/-- The precondition, read as a statement about real numbers. -/
theorem of_pre (h : fn (F := Ideal) x0 x1 x2 x3 x4 x5 x6 x7 x8 x9 x10 x11 x12 x13 x14 x15 x16 x17 x18 x19 = fun _ => 1#1) :
    ∃ (P : Par) (kb bk vb bv : Fin 1024 → EReal) (X : Fin 8 → Fin 8192 → Row), Is3 x0 X ∧ IsQ x1 P.z ∧ Is1 x2 P.g ∧ Is1 x3 P.b ∧ Is1 x4 P.qg ∧ Is1 x5 P.qb ∧ Is1 x6 P.kg ∧ IsE x7 kb ∧ Is1 x8 P.vg ∧ IsE x9 vb ∧ Is2 x12 P.Wq ∧ Is1 x13 P.bq ∧ Is2 x14 P.Wk ∧ IsE x15 bk ∧ Is2 x16 P.Wv ∧ IsE x17 bv
    ∧ (∀ h : Fin 16, P.shS kb bk h = ((P.bias h.val : ℝ) : EReal)) ∧ ∀ b h s, eSm ≤ P.wt (X b) h s := by
  have hi : ∀ i, _ := fun i => (congrFun fn_eq i).symm.trans (congrFun h i)
  have i0 : S8x16x1x8192.Idx := fun k => ⟨0, by fin_cases k <;> decide⟩
  have z := hi i0
  have f0 := real_of_allfin (both (both (both (both (both (both (both (both (both (both (both z).1).1).1).1).1).1).1).1).1).1).2
  have f2 := real_of_allfin (both (both (both (both (both (both (both (both (both (both z).1).1).1).1).1).1).1).1).1).2
  have f3 := real_of_allfin (both (both (both (both (both (both (both (both (both z).1).1).1).1).1).1).1).1).2
  have f4 := real_of_allfin (both (both (both (both (both (both (both (both z).1).1).1).1).1).1).1).2
  have f5 := real_of_allfin (both (both (both (both (both (both (both z).1).1).1).1).1).1).2
  have f6 := real_of_allfin (both (both (both (both (both (both z).1).1).1).1).1).2
  have f8 := real_of_allfin (both (both (both (both (both z).1).1).1).1).2
  have f12 := real_of_allfin (both (both (both (both z).1).1).1).2
  have f13 := real_of_allfin (both (both (both z).1).1).2
  have f14 := real_of_allfin (both (both z).1).2
  have f16 := real_of_allfin (both z).2
  obtain ⟨q, hz⟩ := nrmE_real fun d => x1 (ix3 0 0 d)
  have w : ∀ b h s, ((eSm : ℝ) : EReal) ≤ Cert.ReferenceIdeal.Read.val_main_v130 (F := Ideal) x0 x1 x2 x3 x4 x5 x6 x7 x12 x13 x14 x15 (ix4 b h 0 s) := fun b h s => by
    rw [← lit_eSm]
    exact (Ideal.cmp_oge_eq_one _ _).1 (both (both (both (both (both (both (both (both (both (both (both (hi (ix4 b h 0 s))).1).1).1).1).1).1).1).1).1).1).1
  let P0 : Par := { g := fun j => (x2 (ix1 j)).toReal, b := fun j => (x3 (ix1 j)).toReal, qg := fun j => (x4 (ix1 j)).toReal, qb := fun j => (x5 (ix1 j)).toReal, kg := fun j => (x6 (ix1 j)).toReal, vg := fun j => (x8 (ix1 j)).toReal, bq := fun j => (x13 (ix1 j)).toReal, z := q, bias := fun _ => 0, Wq := fun j k => (x12 (ix2 j k)).toReal, Wk := fun j k => (x14 (ix2 j k)).toReal, Wv := fun j k => (x16 (ix2 j k)).toReal }
  let P : Par := { P0 with bias := fun n => if hn : n < 16 then (P0.shS (fun j => x7 (ix1 j)) (fun j => x15 (ix1 j)) ⟨n, hn⟩).toReal else 0 }
  have hb : ∀ h : Fin 16, P.shS (fun j => x7 (ix1 j)) (fun j => x15 (ix1 j)) h = ((P.bias h.val : ℝ) : EReal) := fun h => by
    refine (floor (P := P) (is3 f0) hz (is1 f2) (is1 f3) (is1 f4) (is1 f5) (is1 f6) (isE x7) (is2 f12) (is1 f13) (is2 f14) (isE x15) w h).trans (congrArg _ ?_)
    exact (show P.bias h.val = (P0.shS (fun j => x7 (ix1 j)) (fun j => x15 (ix1 j)) h).toReal from dif_pos h.isLt).symm
  refine ⟨P, _, _, _, _, _, is3 f0, hz, is1 f2, is1 f3, is1 f4, is1 f5, is1 f6, isE x7, is1 f8, isE x9, is2 f12, is1 f13, is2 f14, isE x15, is2 f16, isE x17, hb, fun b h s => ?_⟩
  exact EReal.coe_le_coe_iff.1 ((w b h s).trans_eq (wt_eq (P := P) (is3 f0) hz (is1 f2) (is1 f3) (is1 f4) (is1 f5) (is1 f6) (isE x7) (is2 f12) (is1 f13) (is2 f14) (isE x15) hb (ix4 b h 0 s)))
end Cert.Pre_weights_above_floor.Val
-- ==== Proof.Value.Same.lean ====
module
public import proofs.«01_k».proof.Proof.Value.Final
public import proofs.«01_k».proof.Proof.Value.Pre
/-! Under the precondition the kernel's result is the reference's. -/
@[expose] public section
set_option maxRecDepth 16384
noncomputable section
namespace Cert.KernelIdeal.Val
open Cert.KernelIdeal Cert.KernelIdeal.Gen Cert.KernelIdeal.Hand Cert.Pool Idealize.ShloMosaic Idealize.ShloMosaic.TcCoe Idealize.SL.Sem

/-- Both results at an argument array of the kernel. -/
theorem same (m : (ℓ : Loc nD τ sig) → Buf (Elt Ideal) ℓ) (ρ : Dev nD → PrngReg) (c : Dev nD)
    (h : Cert.Pre_weights_above_floor.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) = fun _ => 1#1) :
    Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) = W5 m ρ c main_v17 := by
  obtain ⟨P, kb, bk, vb, bv, X, h0, h1, h2, h3, h4, h5, h6, h7, h8, h9, h12, h13, h14, h15, h16, h17, hb, hc⟩ := Cert.Pre_weights_above_floor.Val.of_pre h
  have A : Args m c P kb bk vb bv X := { bias := hb, x := fun b s d => h0 (ix3 b s d), q := h1, g := fun j => h2 (ix1 j), b := fun j => h3 (ix1 j), qg := fun j => h4 (ix1 j), qb := fun j => h5 (ix1 j), kg := fun j => h6 (ix1 j), kb := fun j => h7 (ix1 j), vg := fun j => h8 (ix1 j), vb := fun j => h9 (ix1 j), Wq := fun i j => h12 (ix2 i j), bq := fun j => h13 (ix1 j), Wk := fun i j => h14 (ix2 i j), bk := fun j => h15 (ix1 j), Wv := fun i j => h16 (ix2 i j), bv := fun j => h17 (ix1 j) }
  funext i
  refine Eq.trans ?_ (value ρ A i).symm
  exact Cert.ReferenceIdeal.Val.result_eq h0 h1 h2 h3 h4 h5 h6 h7 h8 h9 h12 h13 h14 h15 h16 h17 hb hc (fun i => congrArg (m ((c : Thread nD τ).loc main_arg18)) (Cert.Pre_weights_above_floor.Val.eta2 i)) (fun i => congrArg (m ((c : Thread nD τ).loc main_arg19)) (Cert.Pre_weights_above_floor.Val.eta1 i)) (fun i => congrArg (m ((c : Thread nD τ).loc main_arg10)) (Cert.Pre_weights_above_floor.Val.eta1 i)) (fun i => congrArg (m ((c : Thread nD τ).loc main_arg11)) (Cert.Pre_weights_above_floor.Val.eta1 i)) i
end Cert.KernelIdeal.Val
-- ==== Proof.lean ====
module

public import proofs.«01_k».proof.Defs
public import proofs.«01_k».proof.Proof.Gen.Kernel
public import proofs.«01_k».proof.Proof.Gen.KernelIdeal
public import proofs.«01_k».proof.Proof.Kernel.Run
public import proofs.«01_k».proof.Proof.KernelIdeal.Run
public import proofs.«01_k».proof.Proof.Gen.ReferenceIdeal.Run
public import proofs.«01_k».proof.Proof.Gen.ReferenceIdeal.Read
public import proofs.«01_k».proof.Proof.Gen.Pre_weights_above_floor
public import proofs.«01_k».proof.Proof.Value.Same
public import Idealize.ShloMosaic.Adequacy
public import Idealize.ShloMosaic.Init
public import Idealize.ShloMosaic.Lib.Quiescent
public import Idealize.ShloMosaic.Lib.StableHlo.RunHlo

@[expose] public section

noncomputable section

namespace Cert.Proof

open Idealize.ShloMosaic Idealize.SL.Sem

/-- The reference's result over its own arguments, which are the kernel's. -/
theorem algebraic : Cert.algebraic_KernelIdeal_ReferenceIdeal_pre_weights_above_floor := by
  intro m g m' g' hpre hagree
  refine ⟨fun c => Cert.KernelIdeal.Hand.W5 m g c (Proc.devRef .tc Cert.KernelIdeal.main_v17), θ_run_mono (Cert.KernelIdeal.Hand.run m g) fun r h => h.1,
    θ_run_mono (Cert.ReferenceIdeal.Value.run m' g') fun r h c => ⟨?_, (h c).2⟩⟩
  refine (h c).1.trans ((Cert.ReferenceIdeal.Read.val_main_v164_eq _).trans (Eq.trans ?_ (Cert.KernelIdeal.Val.same m g c (hpre c))))
  obtain ⟨a0, a1, a2, a3, a4, a5, a6, a7, a8, a9, a10, a11, a12, a13, a14, a15, a16, a17, a18, a19⟩ := hagree c
  rw [← a0, ← a1, ← a2, ← a3, ← a4, ← a5, ← a6, ← a7, ← a8, ← a9, ← a10, ← a11, ← a12, ← a13, ← a14, ← a15, ← a16, ← a17, ← a18, ← a19]

theorem claim : Cert.Claim :=
  ⟨Cert.Kernel.Gen.facts, Cert.KernelIdeal.Gen.facts, Cert.ReferenceIdeal.Gen.facts, Cert.Pre_weights_above_floor.Gen.facts,
    fun m g _ => Cert.Kernel.Hand.frame m g,
    fun m g _ => Cert.KernelIdeal.Hand.frame m g,
    fun m g _ => Cert.KernelIdeal.Hand.frame m g,
    fun m g _ => θ_run_mono (Cert.ReferenceIdeal.Value.run m g)
      fun r h => ⟨fun c => (h c).2, sem_eq_zero_of_no_sems (by decide) r.2⟩,
    fun m g _ => θ_run_mono (Cert.ReferenceIdeal.Value.run m g)
      fun r h => ⟨fun c => (h c).2, sem_eq_zero_of_no_sems (by decide) r.2⟩,
    IdealRules.named_const.statement Cert.KernelIdeal.κ "neg" .f32 0xF149F2CA#32 ⊥ rfl,
    algebraic⟩

end Cert.Proof

end
